-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.truncf_extf.Statement Cert.KernelIdeal.S18x128 .f32 .bf16
  ∧ IdealRules.bf16_pair.Statement Cert.KernelIdeal.S64x128 Cert.KernelIdeal.S32x128
  ∧ IdealRules.bf16_pack.Statement Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x1152 : Shape := ⟨3, ![4, 512, 1152]⟩
abbrev S6912x576 : Shape := ⟨2, ![6912, 576]⟩
abbrev S6912x18 : Shape := ⟨2, ![6912, 18]⟩
abbrev S486 : Shape := ⟨1, ![486]⟩
abbrev S_ : Shape := ⟨0, ![]⟩
abbrev S2048x1152 : Shape := ⟨2, ![2048, 1152]⟩
abbrev S576x6912 : Shape := ⟨2, ![576, 6912]⟩
abbrev S18x6912 : Shape := ⟨2, ![18, 6912]⟩
abbrev S1 : Shape := ⟨1, ![1]⟩
abbrev S2048x6912 : Shape := ⟨2, ![2048, 6912]⟩
abbrev S576x768 : Shape := ⟨2, ![576, 768]⟩
abbrev S18x768 : Shape := ⟨2, ![18, 768]⟩
abbrev S2048x768 : Shape := ⟨2, ![2048, 768]⟩
abbrev S16x128 : Shape := ⟨2, ![16, 128]⟩
abbrev S1152x256 : Shape := ⟨2, ![1152, 256]⟩
abbrev S8x128 : Shape := ⟨2, ![8, 128]⟩
abbrev S18x128 : Shape := ⟨2, ![18, 128]⟩
abbrev S32x128 : Shape := ⟨2, ![32, 128]⟩
abbrev S32x128x1 : Shape := ⟨3, ![32, 128, 1]⟩
abbrev S64x128 : Shape := ⟨2, ![64, 128]⟩
abbrev S1x128 : Shape := ⟨2, ![1, 128]⟩
abbrev S2048x256 : Shape := ⟨2, ![2048, 256]⟩

abbrev nBuf : Space → Nat
  | .hbm => 10
  | .vmem => 11
  | .smem => 2
  | _ => 0

abbrev bufTy : (tb : Table) → Fin (tcTables nBuf tb) → BufTy
  | .hbm, ⟨0, _⟩ => ⟨S4x512x1152, .bf16⟩
  | .hbm, ⟨1, _⟩ => ⟨S6912x576, .i8⟩
  | .hbm, ⟨2, _⟩ => ⟨S6912x18, .i8⟩
  | .hbm, ⟨3, _⟩ => ⟨S486, .f32⟩
  | .hbm, ⟨4, _⟩ => ⟨S_, .f32⟩
  | .hbm, ⟨5, _⟩ => ⟨S2048x1152, .bf16⟩
  | .hbm, ⟨6, _⟩ => ⟨S576x6912, .i8⟩
  | .hbm, ⟨7, _⟩ => ⟨S18x6912, .i8⟩
  | .hbm, ⟨8, _⟩ => ⟨S1, .f32⟩
  | .hbm, ⟨9, _⟩ => ⟨S2048x6912, .bf16⟩
  | .local _ .vmem, ⟨0, _⟩ => ⟨S2048x1152, .bf16⟩
  | .local _ .vmem, ⟨1, _⟩ => ⟨S576x768, .i8⟩
  | .local _ .vmem, ⟨2, _⟩ => ⟨S576x768, .i8⟩
  | .local _ .vmem, ⟨3, _⟩ => ⟨S18x768, .i8⟩
  | .local _ .vmem, ⟨4, _⟩ => ⟨S18x768, .i8⟩
  | .local _ .vmem, ⟨5, _⟩ => ⟨S2048x768, .bf16⟩
  | .local _ .vmem, ⟨6, _⟩ => ⟨S2048x768, .bf16⟩
  | .local _ .vmem, ⟨7, _⟩ => ⟨S16x128, .i32⟩
  | .local _ .vmem, ⟨8, _⟩ => ⟨S1152x256, .bf16⟩
  | .local _ .vmem, ⟨9, _⟩ => ⟨S1152x256, .bf16⟩
  | .local _ .vmem, ⟨10, _⟩ => ⟨S1152x256, .bf16⟩
  | .local _ .smem, ⟨0, _⟩ => ⟨S486, .f32⟩
  | .local _ .smem, ⟨1, _⟩ => ⟨S1, .f32⟩
  | _, _ => ⟨S4x512x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![9], ![false]⟩

def k0_off1 (i : grid0.Coords) (c0_i32_4 : BitVec 32) (c0_i32_5 : BitVec 32) : Fin 1 → Nat :=
  let arg0 : BitVec 32 := BitVec.ofNat 32 (i 0).val
  let c6_i32 : BitVec 32 := 6#32
  let v6 : BitVec 32 := Scalar.muli arg0 c6_i32
  let v7 : BitVec 32 := Scalar.addi v6 c0_i32_4
  let c9_i32 : BitVec 32 := 9#32
  let v8 : BitVec 32 := Scalar.muli v7 c9_i32
  let v9 : BitVec 32 := Scalar.addi v8 c0_i32_5
  let v10 : Index := Scalar.indexCast v9
  ![v10.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S486 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S4x512x1152 : Shape := ⟨3, ![4, 512, 1152]⟩
abbrev S6912x576 : Shape := ⟨2, ![6912, 576]⟩
abbrev S6912x18 : Shape := ⟨2, ![6912, 18]⟩
abbrev S486 : Shape := ⟨1, ![486]⟩
abbrev S_ : Shape := ⟨0, ![]⟩
abbrev S486x256 : Shape := ⟨2, ![486, 256]⟩
abbrev S486x1 : Shape := ⟨2, ![486, 1]⟩
abbrev S6912x1x576 : Shape := ⟨3, ![6912, 1, 576]⟩
abbrev S6912x2x576 : Shape := ⟨3, ![6912, 2, 576]⟩
abbrev S6912x2x18x32 : Shape := ⟨4, ![6912, 2, 18, 32]⟩
abbrev S6912x1x18x1 : Shape := ⟨4, ![6912, 1, 18, 1]⟩
abbrev S4x512x576x2 : Shape := ⟨4, ![4, 512, 576, 2]⟩
abbrev S4x512x6912 : Shape := ⟨3, ![4, 512, 6912]⟩
abbrev S2048x6912 : Shape := ⟨2, ![2048, 6912]⟩

abbrev nBuf : Space → Nat
  | .hbm => 122
  | .vmem => 0
  | .smem => 0
  | _ => 0

abbrev bufTy : (tb : Table) → Fin (tcTables nBuf tb) → BufTy
  | .hbm, ⟨0, _⟩ => ⟨S4x512x1152, .bf16⟩
  | .hbm, ⟨1, _⟩ => ⟨S6912x576, .i8⟩
  | .hbm, ⟨2, _⟩ => ⟨S6912x18, .i8⟩
  | .hbm, ⟨3, _⟩ => ⟨S486, .f32⟩
  | .hbm, ⟨4, _⟩ => ⟨S_, .f32⟩
  | .hbm, ⟨5, _⟩ => ⟨S486x256, .i8⟩
  | .hbm, ⟨6, _⟩ => ⟨S486x256, .i32⟩
  | .hbm, ⟨7, _⟩ => ⟨S486x256, .f32⟩
  | .hbm, ⟨8, _⟩ => ⟨S486x1, .f32⟩
  | .hbm, ⟨9, _⟩ => ⟨S486x256, .f32⟩
  | .hbm, ⟨10, _⟩ => ⟨S486x256, .f32⟩
  | .hbm, ⟨11, _⟩ => ⟨S486x256, .f32⟩
  | .hbm, ⟨12, _⟩ => ⟨S486x256, .f32⟩
  | .hbm, ⟨13, _⟩ => ⟨S6912x18, .f32⟩
  | .hbm, ⟨14, _⟩ => ⟨S6912x18, .bf16⟩
  | .hbm, ⟨15, _⟩ => ⟨S6912x576, .i32⟩
  | .hbm, ⟨16, _⟩ => ⟨S_, .i32⟩
  | .hbm, ⟨17, _⟩ => ⟨S6912x576, .i32⟩
  | .hbm, ⟨18, _⟩ => ⟨S6912x576, .i32⟩
  | .hbm, ⟨19, _⟩ => ⟨S_, .i32⟩
  | .hbm, ⟨20, _⟩ => ⟨S6912x576, .i32⟩
  | .hbm, ⟨21, _⟩ => ⟨S6912x576, .i32⟩
  | .hbm, ⟨22, _⟩ => ⟨S_, .i32⟩
  | .hbm, ⟨23, _⟩ => ⟨S6912x576, .i32⟩
  | .hbm, ⟨24, _⟩ => ⟨S6912x576, .i32⟩
  | .hbm, ⟨25, _⟩ => ⟨S6912x1x576, .i32⟩
  | .hbm, ⟨26, _⟩ => ⟨S6912x1x576, .i32⟩
  | .hbm, ⟨27, _⟩ => ⟨S6912x2x576, .i32⟩
  | .hbm, ⟨28, _⟩ => ⟨S_, .i32⟩
  | .hbm, ⟨29, _⟩ => ⟨S6912x2x576, .i32⟩
  | .hbm, ⟨30, _⟩ => ⟨S6912x2x576, .i32⟩
  | .hbm, ⟨31, _⟩ => ⟨S_, .i32⟩
  | .hbm, ⟨32, _⟩ => ⟨S6912x2x576, .i32⟩
  | .hbm, ⟨33, _⟩ => ⟨S6912x2x576, .i32⟩
  | .hbm, ⟨34, _⟩ => ⟨S_, .i32⟩
  | .hbm, ⟨35, _⟩ => ⟨S6912x2x576, .i32⟩
  | .hbm, ⟨36, _⟩ => ⟨S6912x2x576, .i1⟩
  | .hbm, ⟨37, _⟩ => ⟨S_, .f32⟩
  | .hbm, ⟨38, _⟩ => ⟨S_, .f32⟩
  | .hbm, ⟨39, _⟩ => ⟨S6912x2x576, .f32⟩
  | .hbm, ⟨40, _⟩ => ⟨S6912x2x576, .f32⟩
  | .hbm, ⟨41, _⟩ => ⟨S6912x2x576, .f32⟩
  | .hbm, ⟨42, _⟩ => ⟨S_, .f32⟩
  | .hbm, ⟨43, _⟩ => ⟨S_, .f32⟩
  | .hbm, ⟨44, _⟩ => ⟨S6912x2x576, .f32⟩
  | .hbm, ⟨45, _⟩ => ⟨S6912x2x576, .f32⟩
  | .hbm, ⟨46, _⟩ => ⟨S6912x2x576, .f32⟩
  | .hbm, ⟨47, _⟩ => ⟨S_, .f32⟩
  | .hbm, ⟨48, _⟩ => ⟨S_, .f32⟩
  | .hbm, ⟨49, _⟩ => ⟨S6912x2x576, .f32⟩
  | .hbm, ⟨50, _⟩ => ⟨S6912x2x576, .f32⟩
  | .hbm, ⟨51, _⟩ => ⟨S6912x2x576, .f32⟩
  | .hbm, ⟨52, _⟩ => ⟨S_, .f32⟩
  | .hbm, ⟨53, _⟩ => ⟨S_, .f32⟩
  | .hbm, ⟨54, _⟩ => ⟨S6912x2x576, .f32⟩
  | .hbm, ⟨55, _⟩ => ⟨S6912x2x576, .f32⟩
  | .hbm, ⟨56, _⟩ => ⟨S6912x2x576, .f32⟩
  | .hbm, ⟨57, _⟩ => ⟨S_, .f32⟩
  | .hbm, ⟨58, _⟩ => ⟨S_, .f32⟩
  | .hbm, ⟨59, _⟩ => ⟨S6912x2x576, .f32⟩
  | .hbm, ⟨60, _⟩ => ⟨S6912x2x576, .f32⟩
  | .hbm, ⟨61, _⟩ => ⟨S6912x2x576, .f32⟩
  | .hbm, ⟨62, _⟩ => ⟨S_, .f32⟩
  | .hbm, ⟨63, _⟩ => ⟨S_, .f32⟩
  | .hbm, ⟨64, _⟩ => ⟨S6912x2x576, .f32⟩
  | .hbm, ⟨65, _⟩ => ⟨S6912x2x576, .f32⟩
  | .hbm, ⟨66, _⟩ => ⟨S6912x2x576, .f32⟩
  | .hbm, ⟨67, _⟩ => ⟨S_, .f32⟩
  | .hbm, ⟨68, _⟩ => ⟨S_, .f32⟩
  | .hbm, ⟨69, _⟩ => ⟨S6912x2x576, .f32⟩
  | .hbm, ⟨70, _⟩ => ⟨S6912x2x576, .f32⟩
  | .hbm, ⟨71, _⟩ => ⟨S6912x2x576, .f32⟩
  | .hbm, ⟨72, _⟩ => ⟨S_, .f32⟩
  | .hbm, ⟨73, _⟩ => ⟨S_, .f32⟩
  | .hbm, ⟨74, _⟩ => ⟨S6912x2x576, .f32⟩
  | .hbm, ⟨75, _⟩ => ⟨S6912x2x576, .f32⟩
  | .hbm, ⟨76, _⟩ => ⟨S6912x2x576, .f32⟩
  | .hbm, ⟨77, _⟩ => ⟨S_, .i32⟩
  | .hbm, ⟨78, _⟩ => ⟨S6912x2x576, .i32⟩
  | .hbm, ⟨79, _⟩ => ⟨S6912x2x576, .i32⟩
  | .hbm, ⟨80, _⟩ => ⟨S_, .i32⟩
  | .hbm, ⟨81, _⟩ => ⟨S6912x2x576, .i32⟩
  | .hbm, ⟨82, _⟩ => ⟨S6912x2x576, .i32⟩
  | .hbm, ⟨83, _⟩ => ⟨S_, .i32⟩
  | .hbm, ⟨84, _⟩ => ⟨S6912x2x576, .i32⟩
  | .hbm, ⟨85, _⟩ => ⟨S6912x2x576, .i1⟩
  | .hbm, ⟨86, _⟩ => ⟨S6912x2x576, .f32⟩
  | .hbm, ⟨87, _⟩ => ⟨S6912x2x576, .f32⟩
  | .hbm, ⟨88, _⟩ => ⟨S6912x2x576, .f32⟩
  | .hbm, ⟨89, _⟩ => ⟨S6912x2x576, .f32⟩
  | .hbm, ⟨90, _⟩ => ⟨S_, .i32⟩
  | .hbm, ⟨91, _⟩ => ⟨S6912x2x576, .i32⟩
  | .hbm, ⟨92, _⟩ => ⟨S6912x2x576, .i32⟩
  | .hbm, ⟨93, _⟩ => ⟨S_, .i32⟩
  | .hbm, ⟨94, _⟩ => ⟨S6912x2x576, .i32⟩
  | .hbm, ⟨95, _⟩ => ⟨S6912x2x576, .i32⟩
  | .hbm, ⟨96, _⟩ => ⟨S_, .i32⟩
  | .hbm, ⟨97, _⟩ => ⟨S6912x2x576, .i32⟩
  | .hbm, ⟨98, _⟩ => ⟨S6912x2x576, .i1⟩
  | .hbm, ⟨99, _⟩ => ⟨S6912x2x576, .f32⟩
  | .hbm, ⟨100, _⟩ => ⟨S6912x2x576, .f32⟩
  | .hbm, ⟨101, _⟩ => ⟨S_, .i32⟩
  | .hbm, ⟨102, _⟩ => ⟨S6912x2x576, .i32⟩
  | .hbm, ⟨103, _⟩ => ⟨S6912x2x576, .i32⟩
  | .hbm, ⟨104, _⟩ => ⟨S_, .i32⟩
  | .hbm, ⟨105, _⟩ => ⟨S6912x2x576, .i32⟩
  | .hbm, ⟨106, _⟩ => ⟨S6912x2x576, .i32⟩
  | .hbm, ⟨107, _⟩ => ⟨S_, .i32⟩
  | .hbm, ⟨108, _⟩ => ⟨S6912x2x576, .i32⟩
  | .hbm, ⟨109, _⟩ => ⟨S6912x2x576, .i1⟩
  | .hbm, ⟨110, _⟩ => ⟨S6912x2x576, .f32⟩
  | .hbm, ⟨111, _⟩ => ⟨S6912x2x18x32, .f32⟩
  | .hbm, ⟨112, _⟩ => ⟨S6912x18, .f32⟩
  | .hbm, ⟨113, _⟩ => ⟨S6912x1x18x1, .f32⟩
  | .hbm, ⟨114, _⟩ => ⟨S6912x2x18x32, .f32⟩
  | .hbm, ⟨115, _⟩ => ⟨S6912x2x18x32, .f32⟩
  | .hbm, ⟨116, _⟩ => ⟨S6912x2x18x32, .bf16⟩
  | .hbm, ⟨117, _⟩ => ⟨S6912x2x576, .bf16⟩
  | .hbm, ⟨118, _⟩ => ⟨S4x512x576x2, .bf16⟩
  | .hbm, ⟨119, _⟩ => ⟨S4x512x6912, .f32⟩
  | .hbm, ⟨120, _⟩ => ⟨S4x512x6912, .bf16⟩
  | .hbm, ⟨121, _⟩ => ⟨S2048x6912, .bf16⟩
  | _, _ => ⟨S4x512x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_6 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_cst_8 : Ref sig .tc := ⟨.hbm, 47, rfl⟩
abbrev main_cst_9 : Ref sig .tc := ⟨.hbm, 48, rfl⟩
abbrev main_call2_v0 : Ref sig .tc := ⟨.hbm, 49, rfl⟩
abbrev main_call2_v1 : Ref sig .tc := ⟨.hbm, 50, rfl⟩
abbrev main_v28 : Ref sig .tc := ⟨.hbm, 51, rfl⟩
abbrev main_cst_10 : Ref sig .tc := ⟨.hbm, 52, rfl⟩
abbrev main_cst_11 : Ref sig .tc := ⟨.hbm, 53, rfl⟩
abbrev main_call3_v0 : Ref sig .tc := ⟨.hbm, 54, rfl⟩
abbrev main_call3_v1 : Ref sig .tc := ⟨.hbm, 55, rfl⟩
abbrev main_v29 : Ref sig .tc := ⟨.hbm, 56, rfl⟩
abbrev main_cst_12 : Ref sig .tc := ⟨.hbm, 57, rfl⟩
abbrev main_cst_13 : Ref sig .tc := ⟨.hbm, 58, rfl⟩
abbrev main_call4_v0 : Ref sig .tc := ⟨.hbm, 59, rfl⟩
abbrev main_call4_v1 : Ref sig .tc := ⟨.hbm, 60, rfl⟩
abbrev main_v30 : Ref sig .tc := ⟨.hbm, 61, rfl⟩
abbrev main_cst_14 : Ref sig .tc := ⟨.hbm, 62, rfl⟩
abbrev main_cst_15 : Ref sig .tc := ⟨.hbm, 63, rfl⟩
abbrev main_call5_v0 : Ref sig .tc := ⟨.hbm, 64, rfl⟩
abbrev main_call5_v1 : Ref sig .tc := ⟨.hbm, 65, rfl⟩
abbrev main_v31 : Ref sig .tc := ⟨.hbm, 66, rfl⟩
abbrev main_cst_16 : Ref sig .tc := ⟨.hbm, 67, rfl⟩
abbrev main_cst_17 : Ref sig .tc := ⟨.hbm, 68, rfl⟩
abbrev main_call6_v0 : Ref sig .tc := ⟨.hbm, 69, rfl⟩
abbrev main_call6_v1 : Ref sig .tc := ⟨.hbm, 70, rfl⟩
abbrev main_v32 : Ref sig .tc := ⟨.hbm, 71, rfl⟩
abbrev main_cst_18 : Ref sig .tc := ⟨.hbm, 72, rfl⟩
abbrev main_cst_19 : Ref sig .tc := ⟨.hbm, 73, rfl⟩
abbrev main_call7_v0 : Ref sig .tc := ⟨.hbm, 74, rfl⟩
abbrev main_call7_v1 : Ref sig .tc := ⟨.hbm, 75, rfl⟩
abbrev main_v33 : Ref sig .tc := ⟨.hbm, 76, rfl⟩
abbrev main_c_20 : Ref sig .tc := ⟨.hbm, 77, rfl⟩
abbrev main_v34 : Ref sig .tc := ⟨.hbm, 78, rfl⟩
abbrev main_v35 : Ref sig .tc := ⟨.hbm, 79, rfl⟩
abbrev main_c_21 : Ref sig .tc := ⟨.hbm, 80, rfl⟩
abbrev main_v36 : Ref sig .tc := ⟨.hbm, 81, rfl⟩
abbrev main_v37 : Ref sig .tc := ⟨.hbm, 82, rfl⟩
abbrev main_c_22 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_23 : Ref sig .tc := ⟨.hbm, 90, rfl⟩
abbrev main_v44 : Ref sig .tc := ⟨.hbm, 91, rfl⟩
abbrev main_v45 : Ref sig .tc := ⟨.hbm, 92, rfl⟩
abbrev main_c_24 : Ref sig .tc := ⟨.hbm, 93, rfl⟩
abbrev main_v46 : Ref sig .tc := ⟨.hbm, 94, rfl⟩
abbrev main_v47 : Ref sig .tc := ⟨.hbm, 95, rfl⟩
abbrev main_c_25 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_26 : Ref sig .tc := ⟨.hbm, 101, rfl⟩
abbrev main_v52 : Ref sig .tc := ⟨.hbm, 102, rfl⟩
abbrev main_v53 : Ref sig .tc := ⟨.hbm, 103, rfl⟩
abbrev main_c_27 : Ref sig .tc := ⟨.hbm, 104, rfl⟩
abbrev main_v54 : Ref sig .tc := ⟨.hbm, 105, rfl⟩
abbrev main_v55 : Ref sig .tc := ⟨.hbm, 106, rfl⟩
abbrev main_c_28 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩

abbrev nD : Nat := 1
abbrev τ : Topo := Topo.v7x

variable {F : FTy → Type} [FloatOps F]
-- ==== Proof.Block.lean ====
module

public import proofs.«01_k».proof.Proof.Gen.KernelIdeal.Value

@[expose] public section

set_option maxRecDepth 16384

/-! # What the kernel stores into its dequantised-weight scratch

A grid step fills three scratches of shape [1152, 256], one for each 256 output columns. Each is filled by 36 stores of
a [64, 128] block: 18 absmax blocks of 64 rows, for each of two 128-lane chunks. Here that block is written once, as a
function of its block number and chunk, and the generated lists of stores are shown to be these 36 blocks. -/

noncomputable section

namespace Cert.Nf4

open Cert.KernelIdeal Cert.KernelIdeal.Gen Idealize.ShloMosaic Idealize.SL.Sem

variable {F : FTy → Type} [FloatOps F]

/-- The index a byte looks up in a 128-entry table half: its low seven bits (with the wrap of a negative index, which
never happens). -/
def lookupIdx (b : Vec F S32x128 .i8) : IVec S32x128 32 :=
  let v := andi (extui 32 (shapeCast S32x128 b shapeCasts_S32x128_S32x128) natLt_8_32) (broadcast S32x128 127#32)
  shapeCast S32x128
    (shapeCast S32x128x1
      (select (cmpi .slt v (broadcast S32x128 0#32)) (addi v (broadcast S32x128 128#32)) v)
      shapeCasts_S32x128_S32x128x1)
    shapeCasts_S32x128x1_S32x128

/-- One table half, repeated to the 32 rows of a byte block. -/
def tile4 (t : Vec F S8x128 .i32) : IVec S32x128 32 :=
  concatenate S32x128 0 [⟨S8x128, t⟩, ⟨S8x128, t⟩, ⟨S8x128, t⟩, ⟨S8x128, t⟩]
    concatenates_S8x128_S8x128_S8x128_S8x128_S32x128_d0

/-- The table words of a block of bytes: the second half's entry where the byte exceeds 127, else the first half's. -/
def words (t0 t1 : Vec F S8x128 .i32) (b : Vec F S32x128 .i8) : IVec S32x128 32 :=
  select
    (cmpi .sgt (extui 32 (shapeCast S32x128 b shapeCasts_S32x128_S32x128) natLt_8_32) (broadcast S32x128 127#32))
    (dynamicGather 1 (tile4 (F := F) t1) (lookupIdx (F := F) b))
    (dynamicGather 1 (tile4 (F := F) t0) (lookupIdx (F := F) b))

/-- Each of the 18 absmax rows is a slice. -/
theorem slices_row : ∀ k : Fin 18, S18x128.Slices ![k.val, 0] S1x128 := by decide

/-- Row `k` of the 18 absmax rows, repeated to 32 rows. -/
def amRow (am : FVec F S18x128 .f32) (k : Fin 18) : FVec F S32x128 .f32 :=
  broadcastTo S32x128
    (shapeCast S1x128 (extractStridedSlice S1x128 ![k.val, 0] am (slices_row k)) shapeCasts_S1x128_S1x128)
    broadcasts_S1x128_S32x128

/-- The 64 dequantised rows of one absmax block, for 128 output columns: the words' two halves as bf16 levels, times the
block's absmax row. -/
def block (t0 t1 : Vec F S8x128 .i32) (am : FVec F S18x128 .f32) (k : Fin 18) (b : Vec F S32x128 .i8) :
    FVec F S64x128 .bf16 :=
  shapeCast S64x128
    (mulf
      (bitcastToFloat .bf16 (bitcast S64x128 16 (words (F := F) t0 t1 b) bitcasts_S32x128_w32_S64x128_w16))
      (interleaveRows S64x128 (truncf .bf16 (amRow am k) bitsLt_bf16_f32) (truncf .bf16 (amRow am k) bitsLt_bf16_f32)
        bitcasts_S64x128_w16_S32x128_w32))
    shapeCasts_S64x128_S64x128

/-- The second-level group choice, at the group boundaries up to the `n`-th: entry `e` takes scale `s g` for the last
`g ≤ n` with `e ≥ 256 g`. -/
def pick (s : Fin 9 → Elt F .f32) : (n : ℕ) → n < 9 → FVec F S18x128 .f32
  | 0, h => broadcast S18x128 (s ⟨0, h⟩)
  | n + 1, h => select (cmpi .sge k0_pay25 (broadcast S18x128 (BitVec.ofNat 32 (256 * (n + 1)))))
      (broadcast S18x128 (s ⟨n + 1, h⟩)) (pick s n (by omega))

/-- The absmax of one 128-column chunk: code times the chosen group scale, plus the offset. -/
def absmax (offset : Elt F .f32) (s : Fin 9 → Elt F .f32) (codes : Vec F S18x128 .i8) : FVec F S18x128 .f32 :=
  addf
    (mulf (sitofp .f32 (extsi 32 (shapeCast S18x128 codes shapeCasts_S18x128_S18x128) natLt_8_32))
      (pick s 8 (by omega)))
    (broadcast S18x128 offset)

/-- The tile of store `k` lies inside a weight scratch. -/
theorem inb_w : ∀ k : Fin 36, ∀ a, (![64 * (k.val % 18), 128 * (k.val / 18)] : Fin 2 → Nat) a + S64x128.size a
    ≤ S1152x256.size a := by decide

/-- The byte tile of absmax block `k`, chunk `q` lies inside the byte block. -/
theorem inb_bytes : ∀ (q : Fin 6) (k : Fin 18), ∀ a, (![32 * k.val, 128 * q.val] : Fin 2 → Nat) a + S32x128.size a
    ≤ S576x768.size a := by decide

/-- The code tile of chunk `q` lies inside the code block. -/
theorem inb_codes : ∀ q : Fin 6, ∀ a, (![0, 128 * q.val] : Fin 2 → Nat) a + S18x128.size a
    ≤ S18x768.size a := by decide

/-- A store's absmax block is one of the 18. -/
theorem blk_lt (k : Fin 36) : k.val % 18 < 18 := Nat.mod_lt _ (by omega)

/-- A store's chunk is one of the six of the step. -/
theorem chunk_lt (sub : Fin 3) (k : Fin 36) : 2 * sub.val + k.val / 18 < 6 := by omega

/-- Store number `k` into the scratch of the `sub`-th 256 columns: absmax block `k % 18` of chunk `2 sub + k / 18`. -/
def piece (t0 t1 : Vec F S8x128 .i32) (am : Fin 6 → FVec F S18x128 .f32) (bytes : Fin 6 → Fin 18 → Vec F S32x128 .i8)
    (sub : Fin 3) (k : Fin 36) : View.Piece (Elt F) S1152x256 .bf16 :=
  ⟨Rect.unit ![64 * (k.val % 18), 128 * (k.val / 18)] S64x128.size (inb_w k),
    block t0 t1 (am ⟨2 * sub.val + k.val / 18, chunk_lt sub k⟩) ⟨k.val % 18, blk_lt k⟩
      (bytes ⟨2 * sub.val + k.val / 18, chunk_lt sub k⟩ ⟨k.val % 18, blk_lt k⟩)⟩

/-- The 36 stores of one scratch, the last one first. -/
def pieces (p : Fin 36 → View.Piece (Elt F) S1152x256 .bf16) : List (View.Piece (Elt F) S1152x256 .bf16) :=
  List.ofFn fun k => p k.rev

/-- The matrix product stored for 256 output columns: all of `x` against the scratch, in bf16. -/
def product (x : Vec F S2048x1152 .bf16) (w : Vec F S1152x256 .bf16) : FVec F S2048x256 .bf16 :=
  k0_pay1 x w

/-- The tile of the `sub`-th product lies inside the output block. -/
theorem inb_out : ∀ sub : Fin 3, ∀ a, (![0, 256 * sub.val] : Fin 2 → Nat) a + S2048x256.size a ≤ S2048x768.size a := by
  decide

/-- The store of the `sub`-th 256 output columns. -/
def outPiece (x : Vec F S2048x1152 .bf16) (w : Fin 3 → Vec F S1152x256 .bf16) (sub : Fin 3) :
    View.Piece (Elt F) S2048x768 .bf16 :=
  ⟨Rect.unit ![0, 256 * sub.val] S2048x256.size (inb_out sub), product x (w sub)⟩

/-- The three stores of the output block, the last one first. -/
def outPieces (x : Vec F S2048x1152 .bf16) (w : Fin 3 → Vec F S1152x256 .bf16) : List (View.Piece (Elt F) S2048x768 .bf16) :=
  List.ofFn fun k => outPiece x w k.rev

/-! ## What the body reads, as functions of the blocks it is given -/

/-- Rows 0-7 lie inside the table scratch. -/
theorem inb_half0 : ∀ a, (![0, 0] : Fin 2 → Nat) a + S8x128.size a ≤ S16x128.size a := by decide

/-- Rows 8-15 lie inside the table scratch. -/
theorem inb_half1 : ∀ a, (![8, 0] : Fin 2 → Nat) a + S8x128.size a ≤ S16x128.size a := by decide

/-- The byte block of absmax block `k`, chunk `q`. -/
def bytesOf (x1 : Vec F S576x768 .i8) (q : Fin 6) (k : Fin 18) : Vec F S32x128 .i8 :=
  View.ld (Val := Elt F) x1 (Rect.unit (s := S576x768) ![32 * k.val, 128 * q.val] S32x128.size (inb_bytes q k))

/-- The absmax codes of chunk `q`. -/
def codesOf (x2 : Vec F S18x768 .i8) (q : Fin 6) : Vec F S18x128 .i8 :=
  View.ld (Val := Elt F) x2 (Rect.unit (s := S18x768) ![0, 128 * q.val] S18x128.size (inb_codes q))

/-- The `g`-th group scale of chunk `q` at grid step `i`. -/
def scaleOf (i : grid0.Coords) (x3 : Vec F S486 .f32) (q : Fin 6) (g : Fin 9) : Elt F .f32 :=
  View.ld (Val := Elt F) x3
    (Rect.unit (s := S486) (k0_off1 i (BitVec.ofNat 32 q.val) (BitVec.ofNat 32 g.val)) S1.size (k0_off1_inb i q g))
    (Shape.Idx.first (s := S1) (by decide))

/-- The offset's one entry lies inside its array. -/
theorem inb_S1_zero : ∀ a, (![0] : Fin 1 → Nat) a + S1.size a ≤ S1.size a := by decide

/-- The offset. -/
def offsetOf (x4 : Vec F S1 .f32) : Elt F .f32 :=
  View.ld (Val := Elt F) x4 (Rect.unit (s := S1) ![0] S1.size inb_S1_zero) (Shape.Idx.first (s := S1) (by decide))

/-- The absmax of chunk `q` at grid step `i`. -/
def amOf (i : grid0.Coords) (x2 : Vec F S18x768 .i8) (x3 : Vec F S486 .f32) (x4 : Vec F S1 .f32) (q : Fin 6) :
    FVec F S18x128 .f32 :=
  absmax (offsetOf x4) (scaleOf i x3 q) (codesOf x2 q)

/-- The first eight rows of the table scratch. -/
def half0 (tab : Vec F S16x128 .i32) : Vec F S8x128 .i32 :=
  View.ld (Val := Elt F) tab (Rect.unit (s := S16x128) ![0, 0] S8x128.size inb_half0)

/-- Its last eight rows. -/
def half1 (tab : Vec F S16x128 .i32) : Vec F S8x128 .i32 :=
  View.ld (Val := Elt F) tab (Rect.unit (s := S16x128) ![8, 0] S8x128.size inb_half1)

/-- The 36 stores of the `sub`-th weight scratch at grid step `i`, from the table and the blocks of the step. -/
def wPieces (i : grid0.Coords) (x1 : Vec F S576x768 .i8) (x2 : Vec F S18x768 .i8) (x3 : Vec F S486 .f32)
    (x4 : Vec F S1 .f32) (tab : Vec F S16x128 .i32) (sub : Fin 3) : List (View.Piece (Elt F) S1152x256 .bf16) :=
  pieces (piece (half0 tab) (half1 tab) (amOf i x2 x3 x4) (bytesOf x1) sub)

/-- The dequantised weights the `sub`-th scratch holds when the product reads it. -/
def wOf (i : grid0.Coords) (x1 : Vec F S576x768 .i8) (x2 : Vec F S18x768 .i8) (x3 : Vec F S486 .f32)
    (x4 : Vec F S1 .f32) (tab : Vec F S16x128 .i32) (sub : Fin 3) : Vec F S1152x256 .bf16 :=
  View.canon (wPieces i x1 x2 x3 x4 tab sub)

/-- The output block a grid step leaves. -/
def outOf (i : grid0.Coords) (x0 : Vec F S2048x1152 .bf16) (x1 : Vec F S576x768 .i8) (x2 : Vec F S18x768 .i8)
    (x3 : Vec F S486 .f32) (x4 : Vec F S1 .f32) (tab : Vec F S16x128 .i32) : Vec F S2048x768 .bf16 :=
  View.canon (outPieces x0 (wOf i x1 x2 x3 x4 tab))

end Cert.Nf4
-- ==== Proof.Stores.lean ====
module

public import proofs.«01_k».proof.Proof.Block

@[expose] public section

set_option maxRecDepth 16384

/-! # The generated stores are the blocks of `Block.lean`

The body runs in two cases: the first grid step (case A), which also writes the two halves of the lookup table, and the
later ones (case B), which find the table where the first left it. -/

noncomputable section

namespace Cert.Nf4

open Cert.KernelIdeal Cert.KernelIdeal.Gen Idealize.ShloMosaic Idealize.SL.Sem

variable {F : FTy → Type} [FloatOps F]

/-- The table scratch after the first grid step: its two stores, read back. -/
def tab : Vec F S16x128 .i32 := View.canon (Val := Elt F) kernelRun0_A.sl.HS0_2

variable (c : Dev nD) (i : grid0.Coords)
  (arg1 : Memref sig .tc .vmem S2048x1152 .bf16) (harg1 : arg1.IsWhole)
  (arg2 : Memref sig .tc .vmem S576x768 .i8) (harg2 : arg2.IsWhole)
  (arg3 : Memref sig .tc .vmem S18x768 .i8) (harg3 : arg3.IsWhole)
  (arg4 : Memref sig .tc .smem S486 .f32) (harg4 : arg4.IsWhole)
  (arg5 : Memref sig .tc .smem S1 .f32) (harg5 : arg5.IsWhole)
  (arg6 : Memref sig .tc .vmem S2048x768 .bf16) (harg6 : arg6.IsWhole)
  (arg7 : Memref sig .tc .vmem S16x128 .i32) (harg7 : arg7.IsWhole)
  (arg8 : Memref sig .tc .vmem S1152x256 .bf16) (harg8 : arg8.IsWhole)
  (arg9 : Memref sig .tc .vmem S1152x256 .bf16) (harg9 : arg9.IsWhole)
  (arg10 : Memref sig .tc .vmem S1152x256 .bf16) (harg10 : arg10.IsWhole)
  (x0 : Vec F S2048x1152 .bf16) (x1 : Vec F S576x768 .i8) (x2 : Vec F S18x768 .i8) (x3 : Vec F S486 .f32)
  (x4 : Vec F S1 .f32) (xs0 : Vec F S16x128 .i32)

/-- The weight stores with each read taken through the argument's own view, the table's halves being given. -/
def rawPieces (t0 t1 : Vec F S8x128 .i32) (sub : Fin 3) : List (View.Piece (Elt F) S1152x256 .bf16) :=
  pieces
    (piece t0 t1
      (fun q => absmax
        (View.readAt (Elt F) arg5.view (Rect.unit (s := S1) ![0] S1.size inb_S1_zero).toLoadRect (harg5.unread x4)
          (Shape.Idx.first (s := S1) (by decide)))
        (fun g => View.readAt (Elt F) arg4.view
          (Rect.unit (s := S486) (k0_off1 i (BitVec.ofNat 32 q.val) (BitVec.ofNat 32 g.val)) S1.size
            (k0_off1_inb i q g)).toLoadRect
          (harg4.unread x3) (Shape.Idx.first (s := S1) (by decide)))
        (View.readAt (Elt F) arg3.view (Rect.unit (s := S18x768) ![0, 128 * q.val] S18x128.size (inb_codes q)).toLoadRect
          (harg3.unread x2)))
      (fun q k => View.readAt (Elt F) arg2.view
        (Rect.unit (s := S576x768) ![32 * k.val, 128 * q.val] S32x128.size (inb_bytes q k)).toLoadRect (harg2.unread x1))
      sub)

/-- A whole argument's view reads back the block it holds, so the stores are the blocks of the step. -/
theorem rawPieces_eq (t : Vec F S16x128 .i32) (sub : Fin 3) :
    rawPieces i arg2 harg2 arg3 harg3 arg4 harg4 arg5 harg5 x1 x2 x3 x4 (half0 t) (half1 t) sub
      = wPieces i x1 x2 x3 x4 t sub := by
  unfold rawPieces wPieces amOf bytesOf codesOf scaleOf offsetOf
  simp only [View.readAt_eq_ld, Memref.IsWhole.read_unread]

/-- Scratch 0 in case B: its stores are the 36 of the general form. -/
theorem listB_0 :
    kernelRun0_B.sl.HS1_36 c i arg2 harg2 arg3 harg3 arg4 harg4 arg5 harg5 arg7 harg7 x1 x2 x3 x4 xs0
      = rawPieces i arg2 harg2 arg3 harg3 arg4 harg4 arg5 harg5 x1 x2 x3 x4 (kernelRun0_B.sl.r_7 c arg7 harg7 xs0)
          (kernelRun0_B.sl.r_8 c arg7 harg7 xs0) 0 := by
  sl_kernel_rfl

/-- Scratch 1 in case B: its stores are the 36 of the general form. -/
theorem listB_1 :
    kernelRun0_B.sl.HS2_36 c i arg2 harg2 arg3 harg3 arg4 harg4 arg5 harg5 arg7 harg7 x1 x2 x3 x4 xs0
      = rawPieces i arg2 harg2 arg3 harg3 arg4 harg4 arg5 harg5 x1 x2 x3 x4 (kernelRun0_B.sl.r_7 c arg7 harg7 xs0)
          (kernelRun0_B.sl.r_8 c arg7 harg7 xs0) 1 := by
  sl_kernel_rfl

/-- Scratch 2 in case B: its stores are the 36 of the general form. -/
theorem listB_2 :
    kernelRun0_B.sl.HS3_36 c i arg2 harg2 arg3 harg3 arg4 harg4 arg5 harg5 arg7 harg7 x1 x2 x3 x4 xs0
      = rawPieces i arg2 harg2 arg3 harg3 arg4 harg4 arg5 harg5 x1 x2 x3 x4 (kernelRun0_B.sl.r_7 c arg7 harg7 xs0)
          (kernelRun0_B.sl.r_8 c arg7 harg7 xs0) 2 := by
  sl_kernel_rfl

/-- Scratch 0 in case A: its stores are the 36 of the general form. -/
theorem listA_0 :
    kernelRun0_A.sl.HS1_36 c i arg2 harg2 arg3 harg3 arg4 harg4 arg5 harg5 arg7 x1 x2 x3 x4
      = rawPieces i arg2 harg2 arg3 harg3 arg4 harg4 arg5 harg5 x1 x2 x3 x4 (kernelRun0_A.sl.v3 c arg7)
          (kernelRun0_A.sl.v4 c arg7) 0 := by
  sl_kernel_rfl

/-- Scratch 1 in case A: its stores are the 36 of the general form. -/
theorem listA_1 :
    kernelRun0_A.sl.HS2_36 c i arg2 harg2 arg3 harg3 arg4 harg4 arg5 harg5 arg7 x1 x2 x3 x4
      = rawPieces i arg2 harg2 arg3 harg3 arg4 harg4 arg5 harg5 x1 x2 x3 x4 (kernelRun0_A.sl.v3 c arg7)
          (kernelRun0_A.sl.v4 c arg7) 1 := by
  sl_kernel_rfl

/-- Scratch 2 in case A: its stores are the 36 of the general form. -/
theorem listA_2 :
    kernelRun0_A.sl.HS3_36 c i arg2 harg2 arg3 harg3 arg4 harg4 arg5 harg5 arg7 x1 x2 x3 x4
      = rawPieces i arg2 harg2 arg3 harg3 arg4 harg4 arg5 harg5 x1 x2 x3 x4 (kernelRun0_A.sl.v3 c arg7)
          (kernelRun0_A.sl.v4 c arg7) 2 := by
  sl_kernel_rfl

/-- In case B the two halves are read from the table found in the scratch. -/
theorem halvesB : kernelRun0_B.sl.r_7 c arg7 harg7 xs0 = half0 xs0 ∧ kernelRun0_B.sl.r_8 c arg7 harg7 xs0 = half1 xs0 := by
  constructor
  · unfold kernelRun0_B.sl.r_7 half0; rw [View.readAt_eq_ld, harg7.read_unread]
  · unfold kernelRun0_B.sl.r_8 half1; rw [View.readAt_eq_ld, harg7.read_unread]

/-- In case A they are read from the table just stored. -/
theorem halvesA : kernelRun0_A.sl.v3 (F := F) c arg7 = half0 tab ∧ kernelRun0_A.sl.v4 (F := F) c arg7 = half1 tab := by
  constructor
  · unfold kernelRun0_A.sl.v3; rw [View.readCov_eq_canon']; rfl
  · unfold kernelRun0_A.sl.v4; rw [View.readCov_eq_canon']; rfl

/-- Reading a whole scratch back gives its contents. -/
theorem readCov_whole (v : View sig .tc .vmem S1152x256 .bf16) (L : List (View.Piece (Elt F) S1152x256 .bf16))
    (inb : ∀ a, (![0, 0] : Fin 2 → Nat) a + S1152x256.size a ≤ S1152x256.size a) :
    v.readCov L (Rect.unit (s := S1152x256) ![0, 0] S1152x256.size inb).toLoadRect = View.canon L := by
  rw [View.readCov_eq_canon']
  exact View.ld_unit_zero (by funext a; fin_cases a <;> rfl) inb (View.canon L)

/-- In case B the three weight scratches, as the products read them, hold the dequantised weights under the table found. -/
theorem scratchB :
    kernelRun0_B.sl.v1654 c i arg2 harg2 arg3 harg3 arg4 harg4 arg5 harg5 arg7 harg7 arg8 x1 x2 x3 x4 xs0
        = wOf i x1 x2 x3 x4 xs0 0
    ∧ kernelRun0_B.sl.v3306 c i arg2 harg2 arg3 harg3 arg4 harg4 arg5 harg5 arg7 harg7 arg9 x1 x2 x3 x4 xs0
        = wOf i x1 x2 x3 x4 xs0 1
    ∧ kernelRun0_B.sl.v4958 c i arg2 harg2 arg3 harg3 arg4 harg4 arg5 harg5 arg7 harg7 arg10 x1 x2 x3 x4 xs0
        = wOf i x1 x2 x3 x4 xs0 2 := by
  have h := halvesB c arg7 harg7 xs0
  unfold kernelRun0_B.sl.v1654 kernelRun0_B.sl.v3306 kernelRun0_B.sl.v4958 wOf
  refine ⟨?_, ?_, ?_⟩
  · rw [readCov_whole, listB_0, h.1, h.2, rawPieces_eq]
  · rw [readCov_whole, listB_1, h.1, h.2, rawPieces_eq]
  · rw [readCov_whole, listB_2, h.1, h.2, rawPieces_eq]

/-- In case A they hold the dequantised weights under the table just stored. -/
theorem scratchA :
    kernelRun0_A.sl.v1654 c i arg2 harg2 arg3 harg3 arg4 harg4 arg5 harg5 arg7 arg8 x1 x2 x3 x4
        = wOf i x1 x2 x3 x4 tab 0
    ∧ kernelRun0_A.sl.v3306 c i arg2 harg2 arg3 harg3 arg4 harg4 arg5 harg5 arg7 arg9 x1 x2 x3 x4
        = wOf i x1 x2 x3 x4 tab 1
    ∧ kernelRun0_A.sl.v4958 c i arg2 harg2 arg3 harg3 arg4 harg4 arg5 harg5 arg7 arg10 x1 x2 x3 x4
        = wOf i x1 x2 x3 x4 tab 2 := by
  have h := halvesA (F := F) c arg7
  unfold kernelRun0_A.sl.v1654 kernelRun0_A.sl.v3306 kernelRun0_A.sl.v4958 wOf
  refine ⟨?_, ?_, ?_⟩
  · rw [readCov_whole, listA_0, h.1, h.2, rawPieces_eq]
  · rw [readCov_whole, listA_1, h.1, h.2, rawPieces_eq]
  · rw [readCov_whole, listA_2, h.1, h.2, rawPieces_eq]

/-- Reading all of `x` through its view gives `x`. -/
theorem readAt_x (inb : ∀ a, (![0, 0] : Fin 2 → Nat) a + S2048x1152.size a ≤ S2048x1152.size a) :
    View.readAt (Elt F) arg1.view (Rect.unit (s := S2048x1152) ![0, 0] ![2048, 1152] inb).toLoadRect (harg1.unread x0)
      = x0 := by
  rw [View.readAt_eq_ld, harg1.read_unread]
  exact View.ld_unit_zero (by funext a; fin_cases a <;> rfl) inb x0

/-- A later step's output block, from the table it finds. -/
theorem out_B (hc0 : ¬cond0_0 i) :
    out0_B_5 c i arg1 harg1 arg2 harg2 arg3 harg3 arg4 harg4 arg5 harg5 arg6 harg6 arg7 harg7 arg8 harg8 arg9 harg9
        arg10 harg10 hc0 x0 x1 x2 x3 x4 xs0 = outOf i x0 x1 x2 x3 x4 xs0 := by
  unfold out0_B_5
  rw [View.read_writes_eq_canon _ _ _ (fun y => cover0_B_5 c i arg1 harg1 arg2 harg2 arg3 harg3 arg4 harg4 arg5 harg5
    arg6 harg6 arg7 harg7 arg8 harg8 arg9 harg9 arg10 harg10 hc0 x0 x1 x2 x3 x4 xs0 y)]
  unfold kernelRun0_B
  dsimp only
  obtain ⟨h0, h1, h2⟩ := scratchB c i arg2 harg2 arg3 harg3 arg4 harg4 arg5 harg5 arg7 harg7 arg8 arg9 arg10 x1 x2 x3 x4 xs0
  rw [h0, h1, h2, readAt_x]
  unfold outOf
  sl_kernel_rfl

/-- The first step's output block, from the table it stores. -/
theorem out_A (hc0 : cond0_0 i) :
    out0_A_5 c i arg1 harg1 arg2 harg2 arg3 harg3 arg4 harg4 arg5 harg5 arg6 harg6 arg7 harg7 arg8 harg8 arg9 harg9
        arg10 harg10 hc0 x0 x1 x2 x3 x4 = outOf i x0 x1 x2 x3 x4 tab := by
  unfold out0_A_5
  rw [View.read_writes_eq_canon _ _ _ (fun y => cover0_A_5 c i arg1 harg1 arg2 harg2 arg3 harg3 arg4 harg4 arg5 harg5
    arg6 harg6 arg7 harg7 arg8 harg8 arg9 harg9 arg10 harg10 hc0 x0 x1 x2 x3 x4 y)]
  unfold kernelRun0_A
  dsimp only
  obtain ⟨h0, h1, h2⟩ := scratchA c i arg2 harg2 arg3 harg3 arg4 harg4 arg5 harg5 arg7 arg8 arg9 arg10 x1 x2 x3 x4
  rw [h0, h1, h2, readAt_x]
  unfold outOf
  sl_kernel_rfl

/-- The first step leaves the table in its scratch. -/
theorem sout_A (hc0 : cond0_0 i) :
    sout0_A_0 c i arg1 harg1 arg2 harg2 arg3 harg3 arg4 harg4 arg5 harg5 arg6 harg6 arg7 harg7 arg8 harg8 arg9 harg9
        arg10 harg10 hc0 x0 x1 x2 x3 x4 = tab := by
  unfold sout0_A_0
  rw [View.read_writes_eq_canon _ _ _ (fun y => scover0_A_0 c i arg1 harg1 arg2 harg2 arg3 harg3 arg4 harg4 arg5 harg5
    arg6 harg6 arg7 harg7 arg8 harg8 arg9 harg9 arg10 harg10 hc0 x0 x1 x2 x3 x4 y)]
  unfold kernelRun0_A
  dsimp only
  rfl

end Cert.Nf4
-- ==== Proof.Level.lean ====
module

public import Idealize.ShloMosaic.Lib.Pointwise
public import Idealize.ShloMosaic.Lib.WordCmp

@[expose] public section

set_option maxRecDepth 16384

/-! # The sixteen levels, and the words of the lookup table

A four-bit code `n` stands for one of sixteen levels. The kernel keeps the levels as bf16 words, two to a 32-bit word:
the word of a byte holds the level of its high nibble below the level of its low nibble. -/

noncomputable section

namespace Cert.Nf4

open Idealize.ShloMosaic

/-- The bf16 pattern of each code's level. -/
def levelBits : List (BitVec 16) :=
  [0xBF80#16, 0xBF32#16, 0xBF06#16, 0xBECA#16, 0xBE92#16, 0xBE3D#16, 0xBDBA#16, 0x0000#16,
   0x3DA3#16, 0x3E25#16, 0x3E7C#16, 0x3EAD#16, 0x3EE2#16, 0x3F10#16, 0x3F39#16, 0x3F80#16]

/-- The level of a code, as a number. -/
def level (n : ℕ) : EReal := Ideal.ofBits .bf16 (levelBits.getD n 0#16)

/-- The nibble of a byte that column parity `p` names: the high one first. -/
def nib (b : BitVec 8) (p : ℕ) : ℕ := if p = 0 then b.toNat / 16 else b.toNat % 16

/-- A nibble is below 16. -/
theorem nib_lt (b : BitVec 8) (p : ℕ) : nib b p < 16 := by
  unfold nib; have := b.isLt; split <;> omega

/-- The pattern of a code's level, chosen as the kernel chooses it: a comparison with each code in turn. -/
def codeWord (n : BitVec 32) : BitVec 32 :=
  Scalar.select (IntOp.cmpi .eq n 15#32) 16256#32 <| Scalar.select (IntOp.cmpi .eq n 14#32) 16185#32 <|
  Scalar.select (IntOp.cmpi .eq n 13#32) 16144#32 <| Scalar.select (IntOp.cmpi .eq n 12#32) 16098#32 <|
  Scalar.select (IntOp.cmpi .eq n 11#32) 16045#32 <| Scalar.select (IntOp.cmpi .eq n 10#32) 15996#32 <|
  Scalar.select (IntOp.cmpi .eq n 9#32) 15909#32 <| Scalar.select (IntOp.cmpi .eq n 8#32) 15779#32 <|
  Scalar.select (IntOp.cmpi .eq n 7#32) 0#32 <| Scalar.select (IntOp.cmpi .eq n 6#32) 48570#32 <|
  Scalar.select (IntOp.cmpi .eq n 5#32) 48701#32 <| Scalar.select (IntOp.cmpi .eq n 4#32) 48786#32 <|
  Scalar.select (IntOp.cmpi .eq n 3#32) 48842#32 <| Scalar.select (IntOp.cmpi .eq n 2#32) 48902#32 <|
  Scalar.select (IntOp.cmpi .eq n 1#32) 48946#32 49024#32

/-- The table's word for a byte: the high nibble's pattern, with the low nibble's sixteen bits above it. -/
def pairWord (w : BitVec 32) : BitVec 32 :=
  IntOp.ori (codeWord (IntOp.shrui .vector w 4#32))
    (IntOp.shli .vector (codeWord (IntOp.andi w 15#32)) 16#32)

/-- The lane a byte looks up in a table half. -/
def lane (b : BitVec 8) : ℕ :=
  (Scalar.select (IntOp.cmpi .slt (IntOp.andi (BitVec.setWidth 32 b) 127#32) 0#32)
    (IntOp.addi (IntOp.andi (BitVec.setWidth 32 b) 127#32) 128#32)
    (IntOp.andi (BitVec.setWidth 32 b) 127#32)).toNat % 128

/-- The table's word for lane `l` of half `h`. -/
def tabWord (h l : ℕ) : BitVec 32 :=
  pairWord (IntOp.addi (BitVec.ofNat 32 l) (BitVec.ofNat 32 (128 * h)))

/-- The word looked up for a byte: from the second half where the byte exceeds 127, else from the first. -/
def byteWord (b : BitVec 8) : BitVec 32 :=
  Scalar.select (IntOp.cmpi .sgt (BitVec.setWidth 32 b) 127#32) (tabWord 1 (lane b)) (tabWord 0 (lane b))

/-- Each half of a byte's table word is the pattern of the level of the nibble it stands for: all 256 bytes. -/
theorem byteWord_half_dec : ∀ (f : Fin 256) (p : Fin 2),
    (byteWord (BitVec.ofFin f)).extractLsb' (16 * p.val) 16 = levelBits.getD (nib (BitVec.ofFin f) p.val) 0#16 := by
  decide +kernel

/-- The half of a byte's word at parity `p` is the pattern of the level of its nibble `p`. -/
theorem byteWord_half (b : BitVec 8) (p : ℕ) (hp : p < 2) :
    Ideal.ofBits .bf16 ((byteWord b).extractLsb' (16 * p) 16) = level (nib b p) := by
  unfold level
  exact congrArg _ (byteWord_half_dec b.toFin ⟨p, hp⟩)

end Cert.Nf4
-- ==== Proof.Weights.lean ====
module

public import proofs.«01_k».proof.Proof.Stores
public import proofs.«01_k».proof.Proof.Level
public import Idealize.ShloMosaic.Lib.BitcastPair
public import Idealize.ShloMosaic.Lib.Pipeline.ValueKit.Tiles

@[expose] public section

set_option maxRecDepth 16384

/-! # One grid step of the kernel, element by element

The table, a block of dequantised weights, a whole weight scratch and the output block, each read at an index. -/

noncomputable section

namespace Cert.Nf4

open Cert.KernelIdeal Cert.KernelIdeal.Gen Idealize.ShloMosaic Idealize.SL.Sem

/-! ## The table -/

/-- The bytes of the table's first half are the lane numbers. -/
theorem byte0_apply (x : S8x128.Idx) : k0_pay2 x = IntOp.addi (BitVec.ofNat 32 (x 1).val) (BitVec.ofNat 32 (128 * 0)) := by
  unfold k0_pay2; pointwise

/-- The bytes of its second half are the lane numbers from 128 on. -/
theorem byte1_apply (x : S8x128.Idx) : k0_pay13 x = IntOp.addi (BitVec.ofNat 32 (x 1).val) (BitVec.ofNat 32 (128 * 1)) := by
  unfold k0_pay13; pointwise

/-- The words of the first half pair the levels of their bytes' nibbles. -/
theorem pair0_apply (x : S8x128.Idx) : kernelRun0_A.sl.v5093 x = pairWord (k0_pay2 x) := by
  sl_kernel_rfl

/-- So do the words of the second half. -/
theorem pair1_apply (x : S8x128.Idx) : kernelRun0_A.sl.v5228 x = pairWord (k0_pay13 x) := by
  sl_kernel_rfl

/-- The words the first step stores into rows 0-7. -/
theorem payload_half0 (x : S8x128.Idx) : kernelRun0_A.sl.v5093 x = tabWord 0 (x 1).val := by
  rw [pair0_apply, byte0_apply]; rfl

/-- The words the first step stores into rows 8-15. -/
theorem payload_half1 (x : S8x128.Idx) : kernelRun0_A.sl.v5228 x = tabWord 1 (x 1).val := by
  rw [pair1_apply, byte1_apply]; rfl

/-- The table scratch: row `r` is in half `r / 8`, and every row of a half is the half's 128 words. -/
theorem tab_apply (r : Fin 16) (l : Fin 128) : tab (F := Ideal) (ix2 r l) = tabWord (r.val / 8) l.val := by
  unfold tab kernelRun0_A.sl.HS0_2
  refine View.canon_eq_of_allAt _ _ _ ?_ ?_
  · exact View.cover_of_tiled_head _ _ _ rfl _
  · refine View.allAt_cons_unit _ _ _ _ _ ?_ (View.allAt_cons_unit _ _ _ _ _ ?_ (View.allAt_nil _ _))
    · intro x hx
      have h0 : r.val = 8 + (x 0).val := hx 0
      have h1 : l.val = 0 + (x 1).val := hx 1
      have hb : (x 0).val < 8 := (x 0).isLt
      rw [shapeCast_self, payload_half1, show r.val / 8 = 1 by omega, show l.val = (x 1).val by omega]
    · intro x hx
      have h0 : r.val = 0 + (x 0).val := hx 0
      have h1 : l.val = 0 + (x 1).val := hx 1
      have hb : (x 0).val < 8 := (x 0).isLt
      rw [shapeCast_self, payload_half0, show r.val / 8 = 0 by omega, show l.val = (x 1).val by omega]

/-- The first half of the table at an index. -/
theorem half0_apply (r : Fin 8) (l : Fin 128) : half0 (F := Ideal) tab (ix2 r l) = tabWord 0 l.val := by
  have h : half0 (F := Ideal) tab (ix2 r l) = tab (F := Ideal) (ix2 ⟨r.val, by omega⟩ l) := by
    unfold half0; pointwise
  rw [h, tab_apply]
  congr 1; show r.val / 8 = 0; omega

/-- The second half of the table at an index. -/
theorem half1_apply (r : Fin 8) (l : Fin 128) : half1 (F := Ideal) tab (ix2 r l) = tabWord 1 l.val := by
  have h : half1 (F := Ideal) tab (ix2 r l) = tab (F := Ideal) (ix2 ⟨8 + r.val, by omega⟩ l) := by
    unfold half1; pointwise
  rw [h, tab_apply]
  congr 1; show (8 + r.val) / 8 = 1; omega

/-! ## A block of dequantised weights -/

/-- A table half repeated to 32 rows, when all its rows are the same. -/
theorem tile4_apply (t : Vec Ideal S8x128 .i32) (f : ℕ → BitVec 32) (ht : ∀ (r : Fin 8) (l : Fin 128), t (ix2 r l) = f l.val)
    (r : Fin 32) (l : Fin 128) : tile4 (F := Ideal) t (ix2 r l) = f l.val := by
  unfold tile4
  pointwise
  simp only [ht, dite_eq_ite, ite_self]

/-- The lane a byte looks up is its low seven bits. -/
theorem lookupIdx_apply (b : Vec Ideal S32x128 .i8) (r : Fin 32) (l : Fin 128) :
    (lookupIdx (F := Ideal) b (ix2 r l)).toNat % 128 = lane (b (ix2 r l)) := by
  unfold lookupIdx lane
  pointwise

/-- The word looked up for each byte. -/
theorem words_apply (b : Vec Ideal S32x128 .i8) (r : Fin 32) (l : Fin 128) :
    words (F := Ideal) (half0 tab) (half1 tab) b (ix2 r l) = byteWord (b (ix2 r l)) := by
  have g (t : Vec Ideal S8x128 .i32) (f : ℕ → BitVec 32) (ht : ∀ (r : Fin 8) (l : Fin 128), t (ix2 r l) = f l.val) :
      dynamicGather 1 (tile4 (F := Ideal) t) (lookupIdx (F := Ideal) b) (ix2 r l) = f (lane (b (ix2 r l))) := by
    rw [← lookupIdx_apply]
    refine Eq.trans ?_ (tile4_apply t f ht r ⟨(lookupIdx (F := Ideal) b (ix2 r l)).toNat % 128, Nat.mod_lt _ (by omega)⟩)
    pointwise
  unfold words byteWord
  show Scalar.select _ _ _ = _
  rw [g _ _ half0_apply, g _ _ half1_apply]
  pointwise

/-- Row `r` of a dequantised block: the level of nibble `r % 2` of the byte in row `r / 2`, times the block's absmax. -/
theorem block_apply (am : FVec Ideal S18x128 .f32) (k : Fin 18) (b : Vec Ideal S32x128 .i8) (r : Fin 64) (l : Fin 128) :
    block (F := Ideal) (half0 tab) (half1 tab) am k b (ix2 r l)
      = level (nib (b (ix2 ⟨r.val / 2, by omega⟩ l)) (r.val % 2)) * am (ix2 k l) := by
  unfold block amRow
  pointwise
  rw [bitcast_32_16, show (bitcasts_S32x128_w32_S64x128_w16.srcIdx (ix2 r l) (S64x128.row (ix2 r l) / 2) _ : S32x128.Idx)
    = ix2 ⟨r.val / 2, by omega⟩ l from by idx_ext, words_apply]
  pointwise
  rw [byteWord_half _ _ (by omega), ite_self]

/-! ## The absmax -/

/-- The group choice at entry `l * 18 + r`: the last group, up to the `n`-th, that starts at or before it. -/
theorem pick_apply (s : Fin 9 → EReal) (n : ℕ) (hn : n < 9) (r : Fin 18) (l : Fin 128) :
    pick (F := Ideal) s n hn (ix2 r l) = s ⟨min n ((l.val * 18 + r.val) / 256), by omega⟩ := by
  induction n with
  | zero => unfold pick; pointwise; simp
  | succ n ih =>
    unfold pick
    show Scalar.select _ _ (pick (F := Ideal) s n _ (ix2 r l)) = _
    rw [ih]
    have hw : k0_pay25 (ix2 r l) = BitVec.ofNat 32 (l.val * 18 + r.val) := by
      unfold k0_pay25; pointwise
      apply BitVec.eq_of_toNat_eq
      simp [IntOp.addi, IntOp.muli, BitVec.toNat_add, BitVec.toNat_mul]
    have hc : cmpi .sge k0_pay25 (broadcast S18x128 (BitVec.ofNat 32 (256 * (n + 1)))) (ix2 r l)
        = BitVec.ofBool (decide (256 * (n + 1) ≤ l.val * 18 + r.val)) := by
      rw [cmpi_apply, hw]
      exact WordCmp.cmpi_sge_ofNat (by omega) (by omega)
    rw [hc]
    by_cases h : 256 * (n + 1) ≤ l.val * 18 + r.val
    · rw [decide_eq_true h]
      show s _ = _
      congr 1; apply Fin.ext; show n + 1 = min (n + 1) _; omega
    · rw [decide_eq_false h]
      show s _ = _
      congr 1; apply Fin.ext; show min n _ = min (n + 1) _; omega

/-- The absmax of a chunk at an index: the code times the scale its position picks, plus the offset. -/
theorem absmax_apply (o : EReal) (s : Fin 9 → EReal) (cd : Vec Ideal S18x128 .i8) (r : Fin 18) (l : Fin 128) :
    absmax (F := Ideal) o s cd (ix2 r l)
      = FloatOps.sitofp (F := Ideal) .f32 (BitVec.signExtend 32 (cd (ix2 r l)))
        * s ⟨(l.val * 18 + r.val) / 256, by omega⟩ + o := by
  unfold absmax
  pointwise
  rw [pick_apply]
  congr 3; apply Fin.ext
  show min 8 ((l.val * 18 + r.val) / 256) = (l.val * 18 + r.val) / 256; omega

/-- The address word of a chunk's scale does not overflow. -/
theorem scale_word : ∀ (i : Fin 9) (q : Fin 6) (g : Fin 9),
    (Scalar.indexCast (Scalar.addi (Scalar.muli (Scalar.addi (Scalar.muli (BitVec.ofNat 32 i.val) 6#32)
      (BitVec.ofNat 32 q.val)) 9#32) (BitVec.ofNat 32 g.val))).toNat = (i.val * 6 + q.val) * 9 + g.val := by
  decide +kernel

/-- The `g`-th scale of chunk `q` at step `i` is the scale array's entry at the chunk's number times nine, plus `g`. -/
theorem scaleOf_apply (i : grid0.Coords) (x3 : Vec Ideal S486 .f32) (q : Fin 6) (g : Fin 9) :
    scaleOf (F := Ideal) i x3 q g
      = x3 (ix1 ⟨((i 0).val * 6 + q.val) * 9 + g.val, by have : (i 0).val < 9 := (i 0).isLt; omega⟩) := by
  unfold scaleOf k0_off1
  pointwise
  congr 2
  exact Fin.ext (scale_word (i 0) q g)

/-- The absmax the kernel uses at grid step `i` for row block `k` of output column `col`: its code times the scale of
its group (256 consecutive codes of the whole matrix), plus the offset. -/
def stepAbsmax (i : Fin 9) (x2 : Vec Ideal S18x768 .i8) (x3 : Vec Ideal S486 .f32) (x4 : Vec Ideal S1 .f32)
    (k : Fin 18) (col : Fin 768) : EReal :=
  FloatOps.sitofp (F := Ideal) .f32 (BitVec.signExtend 32 (x2 (ix2 k col)))
    * x3 (ix1 ⟨((i.val * 768 + col.val) * 18 + k.val) / 256, by omega⟩) + x4 (ix1 0)

/-- The absmax of chunk `q` is the step's absmax at its column: a chunk holds nine whole groups. -/
theorem amOf_apply (i : grid0.Coords) (x2 : Vec Ideal S18x768 .i8) (x3 : Vec Ideal S486 .f32) (x4 : Vec Ideal S1 .f32)
    (q : Fin 6) (k : Fin 18) (l : Fin 128) :
    amOf (F := Ideal) i x2 x3 x4 q (ix2 k l) = stepAbsmax (i 0) x2 x3 x4 k ⟨128 * q.val + l.val, by omega⟩ := by
  have hi : (i 0).val < 9 := (i 0).isLt
  have hc : codesOf (F := Ideal) x2 q (ix2 k l) = x2 (ix2 k ⟨128 * q.val + l.val, by omega⟩) := by
    unfold codesOf; pointwise
  have ho : offsetOf (F := Ideal) x4 = x4 (ix1 0) := by
    unfold offsetOf; pointwise
  unfold amOf stepAbsmax
  rw [absmax_apply, hc, ho, scaleOf_apply]
  congr 4
  apply Fin.ext
  show ((i 0).val * 6 + q.val) * 9 + (l.val * 18 + k.val) / 256 = (((i 0).val * 768 + (128 * q.val + l.val)) * 18 + k.val) / 256
  omega

/-! ## A whole weight scratch, and the output block -/

/-- The dequantised weight of input column `j`, output column `col` of the step. -/
def stepWeight (i : Fin 9) (x1 : Vec Ideal S576x768 .i8) (x2 : Vec Ideal S18x768 .i8) (x3 : Vec Ideal S486 .f32)
    (x4 : Vec Ideal S1 .f32) (j : Fin 1152) (col : Fin 768) : EReal :=
  level (nib (x1 (ix2 ⟨j.val / 2, by omega⟩ col)) (j.val % 2))
    * stepAbsmax i x2 x3 x4 ⟨j.val / 64, by omega⟩ col

/-- The byte tile of absmax block `k`, chunk `q` at an index. -/
theorem bytesOf_apply (x1 : Vec Ideal S576x768 .i8) (q : Fin 6) (k : Fin 18) (r : Fin 32) (l : Fin 128) :
    bytesOf (F := Ideal) x1 q k (ix2 r l)
      = x1 (ix2 ⟨32 * k.val + r.val, by omega⟩ ⟨128 * q.val + l.val, by omega⟩) := by
  unfold bytesOf; pointwise

/-- The 36 stores fill the scratch with the dequantised weights. -/
theorem wOf_apply (i : grid0.Coords) (x1 : Vec Ideal S576x768 .i8) (x2 : Vec Ideal S18x768 .i8)
    (x3 : Vec Ideal S486 .f32) (x4 : Vec Ideal S1 .f32) (sub : Fin 3) (j : Fin 1152) (n : Fin 256) :
    wOf (F := Ideal) i x1 x2 x3 x4 tab sub (ix2 j n)
      = stepWeight (i 0) x1 x2 x3 x4 j ⟨256 * sub.val + n.val, by omega⟩ := by
  unfold wOf wPieces pieces piece
  refine View.canon_ofFn_unit_eq_of_forall (S := S1152x256) (fun k : Fin 36 => ![64 * (k.rev.val % 18), 128 * (k.rev.val / 18)])
    S64x128.size (fun k => inb_w k.rev) _ _ _ ?_ ?_
  · refine ⟨Fin.rev ⟨18 * (n.val / 128) + j.val / 64, by omega⟩, fun a => ?_⟩
    rw [Fin.rev_rev]
    match a with
    | ⟨0, _⟩ =>
      show 64 * ((18 * (n.val / 128) + j.val / 64) % 18) ≤ j.val
        ∧ j.val < 64 * ((18 * (n.val / 128) + j.val / 64) % 18) + 64
      omega
    | ⟨1, _⟩ =>
      show 128 * ((18 * (n.val / 128) + j.val / 64) / 18) ≤ n.val
        ∧ n.val < 128 * ((18 * (n.val / 128) + j.val / 64) / 18) + 128
      omega
  · intro k0 x hx
    generalize k0.rev = k at hx ⊢
    have h0 : j.val = 64 * (k.val % 18) + (x 0).val := hx 0
    have h1 : n.val = 128 * (k.val / 18) + (x 1).val := hx 1
    obtain ⟨r, l, rfl⟩ : ∃ (r : Fin 64) (l : Fin 128), x = ix2 r l := ⟨x 0, x 1, eq_ix2 x⟩
    replace h0 : j.val = 64 * (k.val % 18) + r.val := h0
    replace h1 : n.val = 128 * (k.val / 18) + l.val := h1
    rw [block_apply, bytesOf_apply, amOf_apply]
    unfold stepWeight
    congr 2
    · congr 1
      · congr 1
        congr 1
        · apply Fin.ext; show 32 * (k.val % 18) + r.val / 2 = j.val / 2; omega
        · apply Fin.ext; show 128 * (2 * sub.val + k.val / 18) + l.val = 256 * sub.val + n.val; omega
      · omega
    · apply Fin.ext; show k.val % 18 = j.val / 64; omega
    · apply Fin.ext; show 128 * (2 * sub.val + k.val / 18) + l.val = 256 * sub.val + n.val; omega

/-- The stored product at an index. -/
theorem product_apply (x : Vec Ideal S2048x1152 .bf16) (w : Vec Ideal S1152x256 .bf16) (r : Fin 2048) (n : Fin 256) :
    product (F := Ideal) x w (ix2 r n) = ∑ j : Fin 1152, x (ix2 r j) * w (ix2 j n) := by
  unfold product
  pointwise [k0_pay1]

/-- The output block of a grid step: each row of `x` against the dequantised weights of each of its 768 columns. -/
theorem outOf_apply (i : grid0.Coords) (x0 : Vec Ideal S2048x1152 .bf16) (x1 : Vec Ideal S576x768 .i8)
    (x2 : Vec Ideal S18x768 .i8) (x3 : Vec Ideal S486 .f32) (x4 : Vec Ideal S1 .f32) (r : Fin 2048) (col : Fin 768) :
    outOf (F := Ideal) i x0 x1 x2 x3 x4 tab (ix2 r col)
      = ∑ j : Fin 1152, x0 (ix2 r j) * stepWeight (i 0) x1 x2 x3 x4 j col := by
  unfold outOf outPieces outPiece
  refine View.canon_ofFn_unit_eq_of_forall (S := S2048x768) (fun k : Fin 3 => ![0, 256 * k.rev.val])
    S2048x256.size (fun k => inb_out k.rev) _ _ _ ?_ ?_
  · refine ⟨Fin.rev ⟨col.val / 256, by omega⟩, fun a => ?_⟩
    rw [Fin.rev_rev]
    match a with
    | ⟨0, _⟩ =>
      show 0 ≤ r.val ∧ r.val < 0 + 2048
      omega
    | ⟨1, _⟩ =>
      show 256 * (col.val / 256) ≤ col.val ∧ col.val < 256 * (col.val / 256) + 256
      omega
  · intro k0 x hx
    generalize k0.rev = k at hx ⊢
    obtain ⟨a, n, rfl⟩ : ∃ (a : Fin 2048) (n : Fin 256), x = ix2 a n := ⟨x 0, x 1, eq_ix2 x⟩
    have h0 : r.val = 0 + a.val := hx 0
    have h1 : col.val = 256 * k.val + n.val := hx 1
    obtain rfl : r = a := Fin.ext (by omega)
    rw [product_apply]
    refine Finset.sum_congr rfl fun j _ => ?_
    rw [wOf_apply]
    congr 2
    exact Fin.ext h1.symm

end Cert.Nf4
-- ==== Proof.Kernel.lean ====
module

public import proofs.«01_k».proof.Proof.Weights

@[expose] public section

set_option maxRecDepth 16384

/-! # What the kernel's result array holds

Every grid step finds the lookup table in its scratch (the first stores it, the later ones leave it), so the result at
`(r, o)` is row `r` of `x` against the dequantised weights of output column `o`, read from the argument arrays. -/

noncomputable section

namespace Cert.Nf4

open Cert.KernelIdeal Cert.KernelIdeal.Gen Cert.KernelIdeal.Value Idealize.ShloMosaic Idealize.ShloMosaic.TcCoe Idealize.SL.Sem

/-- The absmax of row block `k` of output column `o`: its code times the scale of its group of 256 codes, plus the
offset. -/
def weightAbsmax (a2 : S6912x18.Idx → BitVec 8) (a3 : S486.Idx → EReal) (a4 : S_.Idx → EReal)
    (k : Fin 18) (o : Fin 6912) : EReal :=
  FloatOps.sitofp (F := Ideal) .f32 (BitVec.signExtend 32 (a2 (ix2 o k)))
    * a3 (ix1 ⟨(o.val * 18 + k.val) / 256, by omega⟩) + a4 ix0

/-- The dequantised weight of input column `j`, output column `o`: the level of its nibble times its block's absmax. -/
def weight (a1 : S6912x576.Idx → BitVec 8) (a2 : S6912x18.Idx → BitVec 8) (a3 : S486.Idx → EReal) (a4 : S_.Idx → EReal)
    (j : Fin 1152) (o : Fin 6912) : EReal :=
  level (nib (a1 (ix2 o ⟨j.val / 2, by omega⟩)) (j.val % 2)) * weightAbsmax a2 a3 a4 ⟨j.val / 64, by omega⟩ o

/-- The result at `(r, o)`, from the argument arrays. -/
def matmulAt (a0 : S4x512x1152.Idx → EReal) (a1 : S6912x576.Idx → BitVec 8) (a2 : S6912x18.Idx → BitVec 8)
    (a3 : S486.Idx → EReal) (a4 : S_.Idx → EReal) (r : Fin 2048) (o : Fin 6912) : EReal :=
  ∑ j : Fin 1152, a0 (ix3 ⟨r.val / 512, by omega⟩ ⟨r.val % 512, by omega⟩ j) * weight a1 a2 a3 a4 j o

variable (m : (ℓ : Loc nD τ sig) → Buf (Elt Ideal) ℓ) (c : Dev nD)

/-! ## The table is found at every step -/

/-- After every step the table scratch holds the table: the first step stores it, the others keep it. -/
theorem outsAt_tab : ∀ (n : ℕ) (hn : n < cfg0.N), (outsAt0 m c n hn).2 = tab (F := Ideal) := by
  intro n
  induction n with
  | zero =>
    intro hn
    rw [outsAt0_A m c ⟨0, hn⟩ (Nat.zero_mod _)]
    dsimp only
    exact sout_A (F := Ideal) ..
  | succ n ih =>
    intro hn
    by_cases h0 : (n + 1) % 9 = 0
    · rw [outsAt0_A m c ⟨n + 1, hn⟩ h0]
      dsimp only
      exact sout_A (F := Ideal) ..
    · rw [outsAt0_B m c ⟨n + 1, hn⟩ h0]
      dsimp only
      unfold sout0_B_0
      exact ih _

/-- So every step's output block is that of its blocks under the one table. -/
theorem outsAt_out (t : Fin cfg0.N) :
    (outsAt0 m c t.val t.isLt).1
      = outOf (F := Ideal) (grid0.coords t) (iblk m c 0 t) (iblk m c 1 t) (iblk m c 2 t) (iblk m c 3 t) (iblk m c 4 t) tab := by
  by_cases h0 : t.val % 9 = 0
  · rw [outsAt0_A m c t h0]
    dsimp only
    exact out_A (F := Ideal) ..
  · rw [outsAt0_B m c t h0, outsAt_tab]
    dsimp only
    exact out_B (F := Ideal) ..

/-! ## The blocks, read from the argument arrays -/

/-- The grid coordinate of step `t` is `t`; the byte and code windows move along the columns with it, the other inputs' windows stay. -/
theorem idx_facts : ∀ t : Fin cfg0.N, ((grid0.coords t) 0).val = t.val
    ∧ win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 1) = 0 ∧ win0_4.index t (0 : Fin 1) = 0 :=
  (by decide +kernel : ∀ t : Fin grid0.N, _)

/-- The grid has nine steps. -/
theorem N_eq : cfg0.N = 9 := N_0

/-- The block of `x` is all of `x`, its rows flattened. -/
theorem iblk0_apply (t : Fin cfg0.N) (r : Fin 2048) (j : Fin 1152) :
    (iblk m c 0 t : Vec Ideal S2048x1152 .bf16) (ix2 r j)
      = m ((c : Thread nD τ).loc main_arg0) (ix3 ⟨r.val / 512, by omega⟩ ⟨r.val % 512, by omega⟩ j) := by
  have hi := idx_facts t
  have h : (iblk m c 0 t : Vec Ideal S2048x1152 .bf16) (ix2 r j) = V m c main_v0 (ix2 r j) := by
    unfold iblk
    rw [View.read_apply]
    show V m c main_v0 _ = V m c main_v0 _
    congr 1; funext a; apply Fin.ext
    match a with
    | ⟨0, _⟩ => show win0_0.index t 0 * 2048 + 1 * r.val = r.val; rw [hi.2.1]; omega
    | ⟨1, _⟩ => show win0_0.index t 1 * 1152 + 1 * j.val = j.val; rw [hi.2.2.1]; omega
  rw [h]
  entry_read
  pointwise

/-- The byte block of step `t` is columns `768 t` on of the transposed bytes. -/
theorem iblk1_apply (t : Fin cfg0.N) (k : Fin 576) (col : Fin 768) :
    (iblk m c 1 t : Vec Ideal S576x768 .i8) (ix2 k col)
      = m ((c : Thread nD τ).loc main_arg1)
          (ix2 ⟨t.val * 768 + col.val, by have := t.isLt; have := N_eq; omega⟩ k) := by
  have hi := idx_facts t
  have h : (iblk m c 1 t : Vec Ideal S576x768 .i8) (ix2 k col)
      = V m c main_v1 (ix2 k ⟨t.val * 768 + col.val, by have := t.isLt; have := N_eq; omega⟩) := by
    unfold iblk
    rw [View.read_apply]
    show V m c main_v1 _ = V m c main_v1 _
    congr 1; funext a; apply Fin.ext
    match a with
    | ⟨0, _⟩ => show win0_1.index t 0 * 576 + 1 * k.val = k.val; rw [hi.2.2.2.1]; omega
    | ⟨1, _⟩ => show win0_1.index t 1 * 768 + 1 * col.val = t.val * 768 + col.val; rw [hi.2.2.2.2.1]; omega
  rw [h]
  entry_read
  pointwise

/-- The code block of step `t` is columns `768 t` on of the transposed codes. -/
theorem iblk2_apply (t : Fin cfg0.N) (k : Fin 18) (col : Fin 768) :
    (iblk m c 2 t : Vec Ideal S18x768 .i8) (ix2 k col)
      = m ((c : Thread nD τ).loc main_arg2)
          (ix2 ⟨t.val * 768 + col.val, by have := t.isLt; have := N_eq; omega⟩ k) := by
  have hi := idx_facts t
  have h : (iblk m c 2 t : Vec Ideal S18x768 .i8) (ix2 k col)
      = V m c main_v2 (ix2 k ⟨t.val * 768 + col.val, by have := t.isLt; have := N_eq; omega⟩) := by
    unfold iblk
    rw [View.read_apply]
    show V m c main_v2 _ = V m c main_v2 _
    congr 1; funext a; apply Fin.ext
    match a with
    | ⟨0, _⟩ => show win0_2.index t 0 * 18 + 1 * k.val = k.val; rw [hi.2.2.2.2.2.1]; omega
    | ⟨1, _⟩ => show win0_2.index t 1 * 768 + 1 * col.val = t.val * 768 + col.val; rw [hi.2.2.2.2.2.2.1]; omega
  rw [h]
  entry_read
  pointwise

/-- The block of scales is all the scales. -/
theorem iblk3_apply (t : Fin cfg0.N) (g : Fin 486) :
    (iblk m c 3 t : Vec Ideal S486 .f32) (ix1 g) = m ((c : Thread nD τ).loc main_arg3) (ix1 g) := by
  have hi := idx_facts t
  rw [← V_main_arg3 m c]
  unfold iblk
  rw [View.read_apply]
  show V m c main_arg3 _ = V m c main_arg3 _
  congr 1; funext a; apply Fin.ext
  match a with
  | ⟨0, _⟩ => show win0_3.index t 0 * 486 + 1 * g.val = g.val; rw [hi.2.2.2.2.2.2.2.1]; omega

/-- The offset's block is the offset. -/
theorem iblk4_apply (t : Fin cfg0.N) :
    (iblk m c 4 t : Vec Ideal S1 .f32) (ix1 0) = m ((c : Thread nD τ).loc main_arg4) ix0 := by
  have hi := idx_facts t
  have h : (iblk m c 4 t : Vec Ideal S1 .f32) (ix1 0) = V m c main_v3 (ix1 0) := by
    unfold iblk
    rw [View.read_apply]
    show V m c main_v3 _ = V m c main_v3 _
    congr 1; funext a; apply Fin.ext
    match a with
    | ⟨0, _⟩ => show win0_4.index t 0 * 1 + 1 * 0 = 0; rw [hi.2.2.2.2.2.2.2.2]
  rw [h]
  entry_read
  pointwise

/-- A step's weights, read from the argument arrays. -/
theorem stepWeight_apply (t : Fin cfg0.N) (j : Fin 1152) (col : Fin 768) :
    stepWeight ((grid0.coords t) 0) (iblk m c 1 t) (iblk m c 2 t) (iblk m c 3 t) (iblk m c 4 t) j col
      = weight (m ((c : Thread nD τ).loc main_arg1)) (m ((c : Thread nD τ).loc main_arg2))
          (m ((c : Thread nD τ).loc main_arg3)) (m ((c : Thread nD τ).loc main_arg4)) j
          ⟨t.val * 768 + col.val, by have := t.isLt; have := N_eq; omega⟩ := by
  have hi := (idx_facts t).1
  unfold stepWeight stepAbsmax weight weightAbsmax
  rw [iblk1_apply, iblk2_apply, iblk3_apply, iblk4_apply]
  congr 5
  apply Fin.ext
  show ((((grid0.coords t) 0).val * 768 + col.val) * 18 + j.val / 64) / 256 = _
  rw [hi]

/-- The kernel's result array: at `(r, o)`, row `r` of `x` against the dequantised column `o`. -/
theorem kernel_apply (r : Fin 2048) (o : Fin 6912) :
    (G5 m c : Vec Ideal S2048x6912 .bf16) (ix2 r o)
      = matmulAt (m ((c : Thread nD τ).loc main_arg0)) (m ((c : Thread nD τ).loc main_arg1))
          (m ((c : Thread nD τ).loc main_arg2)) (m ((c : Thread nD τ).loc main_arg3))
          (m ((c : Thread nD τ).loc main_arg4)) r o := by
  have hp : pt5Of (ix2 r o) = o.val / 768 := by
    show 9 * (r.val / 2048 - 0) + 1 * (o.val / 768 - 0) = _
    omega
  have hN := N_eq
  have hlt : pt5Of (ix2 r o) < cfg0.N := by rw [hp, hN]; omega
  have hl : loc5Of (ix2 r o) = ix2 r ⟨o.val % 768, by omega⟩ := by
    funext a; apply Fin.ext
    match a with
    | ⟨0, _⟩ => show r.val % 2048 = r.val; omega
    | ⟨1, _⟩ => rfl
  unfold G5
  rw [dif_pos hlt, ← outsAt0_sweep m c _ hlt, outsAt_out m c ⟨_, hlt⟩, hl, outOf_apply]
  unfold matmulAt
  show @Eq EReal _ _
  refine Finset.sum_congr rfl fun j _ => ?_
  rw [iblk0_apply, stepWeight_apply]
  congr 2
  apply Fin.ext
  show pt5Of (ix2 r o) * 768 + o.val % 768 = o.val
  rw [hp]; omega

end Cert.Nf4
-- ==== Proof.Reference.lean ====
module

public import proofs.«01_k».proof.Proof.Kernel
public import proofs.«01_k».proof.Proof.Gen.ReferenceIdeal.Run

@[expose] public section

set_option maxRecDepth 16384

/-! # What the reference computes

The reference's result term, named part by part, and each part read at an index. -/

noncomputable section

namespace Cert.Nf4.Reference

open Cert.ReferenceIdeal Cert.ReferenceIdeal.Gen Cert.ReferenceIdeal.Value Idealize.ShloMosaic Idealize.ShloMosaic.TcCoe Idealize.SL.Sem

/-- A sum over the input columns, taken pair by pair. -/
theorem sum_pairs (f : Fin 1152 → EReal) :
    ∑ j : Fin 1152, f j = ∑ k : Fin 576, ∑ t : Fin 2, f ⟨k.val * 2 + t.val, by omega⟩ := by
  rw [← Fintype.sum_prod_type' (f := fun (k : Fin 576) (t : Fin 2) => f ⟨k.val * 2 + t.val, by omega⟩)]
  refine (Fintype.sum_equiv (finProdFinEquiv (m := 576) (n := 2)) _ _ fun p => ?_).symm
  congr 1
  apply Fin.ext
  show p.1.val * 2 + p.2.val = p.2.val + 2 * p.1.val
  omega

/-! ## The parts -/

/-- An integer constant over the nibbles' shape. -/
def fillI (k : BitVec 32) : Vec Ideal S6912x2x576 .i32 :=
  broadcastInDim S6912x2x576 ![] bcast_S_S6912x2x576 (constantI S_ 32 k)

/-- A float constant over the nibbles' shape. -/
def fillF (k : BitVec 32) : FVec Ideal S6912x2x576 .f32 :=
  broadcastInDim S6912x2x576 ![] bcast_S_S6912x2x576 (constant S_ .f32 k)

/-- The codes of the weights: the high nibble of each byte, then the low one. -/
def nibbles (a1 : Vec Ideal S6912x576 .i8) : Vec Ideal S6912x2x576 .i32 :=
  concatenate S6912x2x576 1
    [⟨S6912x1x576, broadcastInDim S6912x1x576 ![0, 2] bcast_S6912x576_S6912x1x576_0_2
        (andi (Host.shrsi (extui 32 a1 natLt_8_32) (broadcastInDim S6912x576 ![] bcast_S_S6912x576 (constantI S_ 32 4#32)))
          (broadcastInDim S6912x576 ![] bcast_S_S6912x576 (constantI S_ 32 15#32)))⟩,
     ⟨S6912x1x576, broadcastInDim S6912x1x576 ![0, 2] bcast_S6912x576_S6912x1x576_0_2
        (andi (extui 32 a1 natLt_8_32) (broadcastInDim S6912x576 ![] bcast_S_S6912x576 (constantI S_ 32 15#32)))⟩]
    concatenates_S6912x1x576_S6912x1x576_S6912x2x576_d1

/-- Whether bit `k` of each code is set. -/
def bit (n : Vec Ideal S6912x2x576 .i32) (k : BitVec 32) : Vec Ideal S6912x2x576 .i1 :=
  cmpi .eq (andi (Host.shrsi n (fillI k)) (fillI 1#32)) (fillI 1#32)

/-- The level of each code, chosen bit by bit. -/
def levels (n : Vec Ideal S6912x2x576 .i32) : FVec Ideal S6912x2x576 .f32 :=
  select (bit n 3#32)
    (select (bit n 2#32)
      (select (bit n 1#32) (select (bit n 0#32) (fillF 0x3F800000#32) (fillF 0x3F390000#32))
        (select (bit n 0#32) (fillF 0x3F100000#32) (fillF 0x3EE20000#32)))
      (select (bit n 1#32) (select (bit n 0#32) (fillF 0x3EAD0000#32) (fillF 0x3E7C0000#32))
        (select (bit n 0#32) (fillF 0x3E250000#32) (fillF 0x3DA30000#32))))
    (select (bit n 2#32)
      (select (bit n 1#32) (select (bit n 0#32) (fillF 0x00000000#32) (fillF 0xBDBA0000#32))
        (select (bit n 0#32) (fillF 0xBE3D0000#32) (fillF 0xBE920000#32)))
      (select (bit n 1#32) (select (bit n 0#32) (fillF 0xBECA0000#32) (fillF 0xBF060000#32))
        (select (bit n 0#32) (fillF 0xBF320000#32) (fillF 0xBF800000#32))))

/-- The absmax of each block of 64 weights of a row. -/
def absmaxes (a2 : Vec Ideal S6912x18 .i8) (a3 : FVec Ideal S486 .f32) (a4 : FVec Ideal S_ .f32) : FVec Ideal S6912x18 .bf16 :=
  truncf .bf16 (shapeCast S6912x18
    (addf (mulf (sitofp .f32 (extsi 32 (shapeCast S486x256 a2 shapeCasts_S6912x18_S486x256) natLt_8_32))
        (broadcastInDim S486x256 ![0, 1] bcast_S486x1_S486x256_0_1 (broadcastInDim S486x1 ![0] bcast_S486_S486x1_0 a3)))
      (broadcastInDim S486x256 ![] bcast_S_S486x256 a4)) shapeCasts_S486x256_S6912x18) bitsLt_bf16_f32

/-- The weights, the even columns and then the odd ones: each level times its block's absmax. -/
def weights (l : FVec Ideal S6912x2x576 .f32) (am : FVec Ideal S6912x18 .bf16) : FVec Ideal S6912x2x576 .bf16 :=
  shapeCast S6912x2x576 (truncf .bf16
    (mulf (shapeCast S6912x2x18x32 l shapeCasts_S6912x2x576_S6912x2x18x32)
      (broadcastInDim S6912x2x18x32 ![0, 1, 2, 3] bcast_S6912x1x18x1_S6912x2x18x32_0_1_2_3
        (broadcastInDim S6912x1x18x1 ![0, 2] bcast_S6912x18_S6912x1x18x1_0_2 (extf .f32 am bitsLt_bf16_f32)))) bitsLt_bf16_f32)
    shapeCasts_S6912x2x18x32_S6912x2x576

/-- The product of the activations with the weights. -/
def result (a0 : FVec Ideal S4x512x1152 .bf16) (w : FVec Ideal S6912x2x576 .bf16) : FVec Ideal S2048x6912 .bf16 :=
  shapeCast S2048x6912 (truncf .bf16
    (Host.dotGeneral dot_S4x512x576x2_S6912x2x576_S4x512x6912_23_21_01_0_n_n none
      (shapeCast S4x512x576x2 a0 shapeCasts_S4x512x1152_S4x512x576x2) w : FVec Ideal S4x512x6912 .f32) bitsLt_bf16_f32)
    shapeCasts_S4x512x6912_S2048x6912

/-- The reference's result term is these parts composed. -/
theorem res_eq (m : (ℓ : Loc nD τ sig) → Buf (Elt Ideal) ℓ) (c : Dev nD) :
    res_main_v69 m c
      = result (m ((c.tc : Thread nD τ).loc main_arg0))
          (weights (levels (nibbles (m ((c.tc : Thread nD τ).loc main_arg1))))
            (absmaxes (m ((c.tc : Thread nD τ).loc main_arg2)) (m ((c.tc : Thread nD τ).loc main_arg3))
              (m ((c.tc : Thread nD τ).loc main_arg4)))) := by
  unfold res_main_v69
  rfl

/-! ## Each part at an index -/

/-- The result at `(r, o)`: the activations' row against the weights, byte by byte and nibble by nibble. -/
theorem result_apply (a0 : FVec Ideal S4x512x1152 .bf16) (w : FVec Ideal S6912x2x576 .bf16) (r : Fin 2048) (o : Fin 6912) :
    result a0 w (ix2 r o)
      = ∑ k : Fin 576, ∑ t : Fin 2,
          a0 (ix3 ⟨r.val / 512, by omega⟩ ⟨r.val % 512, by omega⟩ ⟨k.val * 2 + t.val, by omega⟩) * w (ix3 o t k) := by
  pointwise [result]

/-- A weight is its level times the absmax of the block its byte lies in. -/
theorem weights_apply (l : FVec Ideal S6912x2x576 .f32) (am : FVec Ideal S6912x18 .bf16) (o : Fin 6912) (t : Fin 2) (k : Fin 576) :
    weights l am (ix3 o t k) = l (ix3 o t k) * am (ix2 o ⟨k.val / 32, by omega⟩) := by
  pointwise [weights]

/-- An absmax is its code times the scale of its group of 256 codes, plus the offset. -/
theorem absmaxes_apply (a2 : Vec Ideal S6912x18 .i8) (a3 : FVec Ideal S486 .f32) (a4 : FVec Ideal S_ .f32) (o : Fin 6912)
    (k : Fin 18) :
    absmaxes a2 a3 a4 (ix2 o k)
      = FloatOps.sitofp (F := Ideal) .f32 (BitVec.signExtend 32 (a2 (ix2 o k)))
          * a3 (ix1 ⟨(o.val * 18 + k.val) / 256, by omega⟩) + a4 ix0 := by
  pointwise [absmaxes]

/-- The shift and the mask of a byte give its nibbles. -/
theorem nibble_word (b : BitVec 8) (t : Fin 2) :
    (if _h : t.val < 1 then IntOp.andi (IntOp.shrsi ArithUnit.host (BitVec.setWidth 32 b) 4#32) 15#32
      else IntOp.andi (BitVec.setWidth 32 b) 15#32) = BitVec.ofNat 32 (nib b t.val) := by
  revert b t
  decide +kernel

/-- The codes are the nibbles of the bytes, the high one first. -/
theorem nibbles_apply (a1 : Vec Ideal S6912x576 .i8) (o : Fin 6912) (t : Fin 2) (k : Fin 576) :
    nibbles a1 (ix3 o t k) = BitVec.ofNat 32 (nib (a1 (ix2 o k)) t.val) := by
  pointwise [nibbles]
  exact nibble_word _ t

/-- A bf16 pattern and the f32 pattern with it in the high half are the same number. -/
theorem ofBits_wide (h : BitVec 16) (w : BitVec 32) (e : w = h.setWidth 32 <<< 16) : Ideal.ofBits .f32 w = Ideal.ofBits .bf16 h := by
  subst e
  have hl := h.isLt
  have hn : (h.setWidth 32 <<< 16).toNat = h.toNat * 65536 := by
    simp [BitVec.toNat_shiftLeft, BitVec.toNat_setWidth, Nat.shiftLeft_eq]; omega
  have e1 : (h.setWidth 32 <<< 16).extractLsb' (8 + 23) 1 = h.extractLsb' (8 + 7) 1 := by
    apply BitVec.eq_of_toNat_eq
    rw [BitVec.extractLsb'_toNat, BitVec.extractLsb'_toNat, hn, Nat.shiftRight_eq_div_pow, Nat.shiftRight_eq_div_pow]
    omega
  have e2 : ((h.setWidth 32 <<< 16).extractLsb' 23 8).toNat = (h.extractLsb' 7 8).toNat := by
    rw [BitVec.extractLsb'_toNat, BitVec.extractLsb'_toNat, hn, Nat.shiftRight_eq_div_pow, Nat.shiftRight_eq_div_pow]
    omega
  have e3 : ((h.setWidth 32 <<< 16).extractLsb' 0 23).toNat = (h.extractLsb' 0 7).toNat * 65536 := by
    rw [BitVec.extractLsb'_toNat, BitVec.extractLsb'_toNat, hn, Nat.shiftRight_eq_div_pow, Nat.shiftRight_eq_div_pow]
    omega
  show Ideal.ieee 8 23 _ = Ideal.ieee 8 7 _
  unfold Ideal.ieee
  simp only [e1, e2, e3]
  generalize (h.extractLsb' 7 8).toNat = ex
  generalize (h.extractLsb' 0 7).toNat = fr
  generalize (if (h.extractLsb' (8 + 7) 1 == 1#1) = true then (-1 : ℝ) else 1) = sgn
  have hz : fr * 65536 = 0 ↔ fr = 0 := by omega
  have hp : ∀ e : ℤ, (2 : ℝ) ^ (e - (7 : ℕ)) = 65536 * (2 : ℝ) ^ (e - (23 : ℕ)) := by
    intro e
    have : e - ((7 : ℕ) : ℤ) = 16 + (e - ((23 : ℕ) : ℤ)) := by push_cast; ring
    rw [this, zpow_add₀ (by norm_num)]; norm_num
  simp only [hz, hp]
  split
  · rfl
  · split
    · refine congrArg Real.toEReal ?_; push_cast; ring
    · refine congrArg Real.toEReal ?_; push_cast; ring

/-- The test of a code's bit. -/
theorem bit_word : ∀ (q : Fin 16) (k : Fin 4),
    IntOp.cmpi .eq (IntOp.andi (IntOp.shrsi ArithUnit.host (BitVec.ofNat 32 q.val) (BitVec.ofNat 32 k.val)) 1#32) 1#32
      = BitVec.ofBool (q.val.testBit k.val) := by
  decide +kernel

/-- A select on a truth value is the choice it makes. -/
theorem select_ofBool (b : Bool) (x y : EReal) : Scalar.select (BitVec.ofBool b) x y = if b then x else y := by
  cases b <;> rfl

/-- Choosing bit by bit among the sixteen levels gives the code's level. -/
theorem levels_apply (n : Vec Ideal S6912x2x576 .i32) (o : Fin 6912) (t : Fin 2) (k : Fin 576) (q : ℕ) (hq : q < 16)
    (hn : n (ix3 o t k) = BitVec.ofNat 32 q) : levels n (ix3 o t k) = level q := by
  pointwise [levels, bit, fillI, fillF]
  have hb := bit_word ⟨q, hq⟩
  rw [hn, show IntOp.cmpi .eq (IntOp.andi (IntOp.shrsi ArithUnit.host (BitVec.ofNat 32 q) 0#32) 1#32) 1#32 = _ from hb 0,
    show IntOp.cmpi .eq (IntOp.andi (IntOp.shrsi ArithUnit.host (BitVec.ofNat 32 q) 1#32) 1#32) 1#32 = _ from hb 1,
    show IntOp.cmpi .eq (IntOp.andi (IntOp.shrsi ArithUnit.host (BitVec.ofNat 32 q) 2#32) 1#32) 1#32 = _ from hb 2,
    show IntOp.cmpi .eq (IntOp.andi (IntOp.shrsi ArithUnit.host (BitVec.ofNat 32 q) 3#32) 1#32) 1#32 = _ from hb 3]
  clear hb hn
  unfold level
  interval_cases q <;> simp only [Fin.val_ofNat, select_ofBool, Nat.testBit_eq_decide_div_mod_eq] <;> norm_num <;> first
    | exact Ideal.ofBits_one_bf16.symm
    | exact Ideal.ofBits_zero_bf16.symm
    | (refine ofBits_wide _ _ ?_; decide)

/-- The reference's result at `(r, o)`. -/
theorem reference_apply (m : (ℓ : Loc nD τ sig) → Buf (Elt Ideal) ℓ) (c : Dev nD) (r : Fin 2048) (o : Fin 6912) :
    (res_main_v69 m c : FVec Ideal S2048x6912 .bf16) (ix2 r o)
      = matmulAt (m ((c : Thread nD τ).loc main_arg0)) (m ((c : Thread nD τ).loc main_arg1))
          (m ((c : Thread nD τ).loc main_arg2)) (m ((c : Thread nD τ).loc main_arg3))
          (m ((c : Thread nD τ).loc main_arg4)) r o := by
  rw [res_eq]
  refine (result_apply _ _ r o).trans ?_
  unfold matmulAt
  rw [sum_pairs]
  show @Eq EReal _ _
  refine Finset.sum_congr rfl fun k _ => Finset.sum_congr rfl fun t _ => ?_
  congr 1
  rw [weights_apply, levels_apply _ o t k _ (nib_lt _ _) (nibbles_apply _ o t k), absmaxes_apply]
  unfold weight weightAbsmax
  have h1 : (k.val * 2 + t.val) / 2 = k.val := by omega
  have h2 : (k.val * 2 + t.val) % 2 = t.val := by omega
  have h3 : (k.val * 2 + t.val) / 64 = k.val / 32 := by omega
  simp only [h1, h2, h3]

end Cert.Nf4.Reference
-- ==== Proof.lean ====
module

public import proofs.«01_k».proof.Defs
public import proofs.«01_k».proof.Proof.Gen.Kernel.Frame
public import proofs.«01_k».proof.Proof.Kernel
public import proofs.«01_k».proof.Proof.Reference
public import Idealize.ShloMosaic.Lib.Bf16Pair

@[expose] public section

set_option maxRecDepth 16384

/-! # The claims, assembled -/

noncomputable section

namespace Cert.Proof

open Idealize.ShloMosaic Idealize.ShloMosaic.TcCoe Idealize.SL.Sem

/-- The kernel runs to the end and leaves its arguments and counters as they were. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the reference, which declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each rewrite that made the idealized kernel is an instance of its rule. -/
theorem preserves : Cert.preserves_Kernel_KernelIdeal :=
  ⟨IdealRules.truncf_extf.statement _ _ _, IdealRules.bf16_pair.statement _ _, IdealRules.bf16_pack.statement _⟩

/-- From memories that agree on the arguments, the reference's result array is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Value.res_main_v69 m' c : FVec Ideal Cert.KernelIdeal.S2048x6912 .bf16)
      = Cert.KernelIdeal.Value.G5 m c := by
  funext i
  obtain ⟨r, o, rfl⟩ : ∃ (r : Fin 2048) (o : Fin 6912), i = ix2 r o := ⟨i 0, i 1, eq_ix2 i⟩
  refine (Cert.Nf4.Reference.reference_apply m' c r o).trans ?_
  rw [h0, h1, h2, h3, h4]
  exact (Cert.Nf4.kernel_apply m c r o).symm

/-- On exact arithmetic the kernel's result is the reference's. -/
theorem algebraic : Cert.algebraic_KernelIdeal_ReferenceIdeal := by
  intro m ρ m' ρ' _ hag
  refine ⟨fun c => Cert.KernelIdeal.Value.G5 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hag c
  exact result_eq m m' c h0 h1 h2 h3 h4

/-- All five claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
